-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 2048]⟩ ⟨2, ![16384, 2048]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![8192, 2048]⟩ ⟨2, ![16384, 2048]⟩ (Layout.meshBlock [2, 2] ![[1], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨2, ![16384, 1024]⟩ ⟨2, ![16384, 2048]⟩ (Layout.meshBlock [2, 2] ![[], [1]] c) v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S8192x2048 : Shape := ⟨2, ![8192, 2048]⟩
abbrev S16384x1024 : Shape := ⟨2, ![16384, 1024]⟩
abbrev S4x256x1024 : Shape := ⟨3, ![4, 256, 1024]⟩
abbrev S4x512x1024 : Shape := ⟨3, ![4, 512, 1024]⟩
abbrev S16x256x1024 : Shape := ⟨3, ![16, 256, 1024]⟩
abbrev S16x512x1024 : Shape := ⟨3, ![16, 512, 1024]⟩
abbrev S4 : Shape := ⟨1, ![4]⟩
abbrev S16 : Shape := ⟨1, ![16]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S1x512x1024 : Shape := ⟨3, ![1, 512, 1024]⟩
abbrev S512x1024 : Shape := ⟨2, ![512, 1024]⟩

abbrev nBuf : Space → Nat
  | .hbm => 2
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S16384x1024, .bf16⟩
  | .local _ .vmem, ⟨0, _⟩ => ⟨S4x256x1024, .f32⟩
  | .local _ .vmem, ⟨1, _⟩ => ⟨S4x512x1024, .f32⟩
  | .local _ .vmem, ⟨2, _⟩ => ⟨S16x256x1024, .bf16⟩
  | .local _ .vmem, ⟨3, _⟩ => ⟨S16x256x1024, .bf16⟩
  | .local _ .vmem, ⟨4, _⟩ => ⟨S16x512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  (ofTc nBuf bufTy 1 104 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v8 : BitVec 32 := Scalar.muli v2 c4096_i32
  let v9 : BitVec 32 := Scalar.addi v8 c0_i32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v10 : BitVec 32 := Scalar.subi c1_i32_4 v5
  let c1024_i32 : BitVec 32 := 1024#32
  let v11 : BitVec 32 := Scalar.muli v10 c1024_i32
  ![v9.toNat, v11.toNat]
def k0_off2 (d0 : Dev nD) : Fin 2 → Nat :=
  let c0_i32_34 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_29 : BitVec 32 := 1024#32
  let v44 : BitVec 32 := Scalar.muli v5 c1024_i32_29
  ![0, v44.toNat]
def k0_off3 (d0 : Dev nD) : Fin 2 → Nat :=
  let c512_i32_40 : BitVec 32 := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_35 : BitVec 32 := 1024#32
  let v50 : BitVec 32 := Scalar.muli v5 c1024_i32_35
  ![512, v50.toNat]
def k0_off4 (d0 : Dev nD) : Fin 2 → Nat :=
  let c1024_i32_46 : BitVec 32 := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_41 : BitVec 32 := 1024#32
  let v56 : BitVec 32 := Scalar.muli v5 c1024_i32_41
  ![1024, v56.toNat]
def k0_off5 (d0 : Dev nD) : Fin 2 → Nat :=
  let c1536_i32 : BitVec 32 := 1536#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_47 : BitVec 32 := 1024#32
  let v62 : BitVec 32 := Scalar.muli v5 c1024_i32_47
  ![1536, v62.toNat]
def k0_dev1 (d0 : Dev nD) : Nat :=
  let c0_i32_71 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_70 : BitVec 32 := 2#32
  let v89 : BitVec 32 := Scalar.muli v2 c2_i32_70
  let v90 : BitVec 32 := Scalar.addi c0_i32_71 v89
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_72 : BitVec 32 := 1#32
  let v91 : BitVec 32 := Scalar.muli v6 c1_i32_72
  let v92 : BitVec 32 := Scalar.addi v90 v91
  v92.toNat
def k0_dev2 (d0 : Dev nD) : Nat :=
  let c0_i32_75 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_74 : BitVec 32 := 2#32
  let v93 : BitVec 32 := Scalar.muli v7 c2_i32_74
  let v94 : BitVec 32 := Scalar.addi c0_i32_75 v93
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_76 : BitVec 32 := 1#32
  let v95 : BitVec 32 := Scalar.muli v5 c1_i32_76
  let v96 : BitVec 32 := Scalar.addi v94 v95
  v96.toNat
def k0_dev3 (d0 : Dev nD) : Nat :=
  let c0_i32_83 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_82 : BitVec 32 := 2#32
  let v97 : BitVec 32 := Scalar.muli v2 c2_i32_82
  let v98 : BitVec 32 := Scalar.addi c0_i32_83 v97
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_84 : BitVec 32 := 1#32
  let v99 : BitVec 32 := Scalar.muli v6 c1_i32_84
  let v100 : BitVec 32 := Scalar.addi v98 v99
  v100.toNat
def k0_dev4 (d0 : Dev nD) : Nat :=
  let c0_i32_110 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_109 : BitVec 32 := 2#32
  let v129 : BitVec 32 := Scalar.muli v2 c2_i32_109
  let v130 : BitVec 32 := Scalar.addi c0_i32_110 v129
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_111 : BitVec 32 := 1#32
  let v131 : BitVec 32 := Scalar.muli v6 c1_i32_111
  let v132 : BitVec 32 := Scalar.addi v130 v131
  v132.toNat
def k0_dev5 (d0 : Dev nD) : Nat :=
  let c0_i32_138 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_137 : BitVec 32 := 2#32
  let v161 : BitVec 32 := Scalar.muli v2 c2_i32_137
  let v162 : BitVec 32 := Scalar.addi c0_i32_138 v161
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_139 : BitVec 32 := 1#32
  let v163 : BitVec 32 := Scalar.muli v6 c1_i32_139
  let v164 : BitVec 32 := Scalar.addi v162 v163
  v164.toNat
def k0_dev6 (d0 : Dev nD) : Nat :=
  let c0_i32_165 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_164 : BitVec 32 := 2#32
  let v193 : BitVec 32 := Scalar.muli v2 c2_i32_164
  let v194 : BitVec 32 := Scalar.addi c0_i32_165 v193
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_166 : BitVec 32 := 1#32
  let v195 : BitVec 32 := Scalar.muli v6 c1_i32_166
  let v196 : BitVec 32 := Scalar.addi v194 v195
  v196.toNat
def k0_dev7 (d0 : Dev nD) : Nat :=
  let c0_i32_191 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_190 : BitVec 32 := 2#32
  let v225 : BitVec 32 := Scalar.muli v2 c2_i32_190
  let v226 : BitVec 32 := Scalar.addi c0_i32_191 v225
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_192 : BitVec 32 := 1#32
  let v227 : BitVec 32 := Scalar.muli v6 c1_i32_192
  let v228 : BitVec 32 := Scalar.addi v226 v227
  v228.toNat
def k0_dev8 (d0 : Dev nD) : Nat :=
  let c0_i32_217 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_216 : BitVec 32 := 2#32
  let v257 : BitVec 32 := Scalar.muli v2 c2_i32_216
  let v258 : BitVec 32 := Scalar.addi c0_i32_217 v257
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_218 : BitVec 32 := 1#32
  let v259 : BitVec 32 := Scalar.muli v6 c1_i32_218
  let v260 : BitVec 32 := Scalar.addi v258 v259
  v260.toNat
def k0_dev9 (d0 : Dev nD) : Nat :=
  let c0_i32_243 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_242 : BitVec 32 := 2#32
  let v289 : BitVec 32 := Scalar.muli v2 c2_i32_242
  let v290 : BitVec 32 := Scalar.addi c0_i32_243 v289
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_244 : BitVec 32 := 1#32
  let v291 : BitVec 32 := Scalar.muli v6 c1_i32_244
  let v292 : BitVec 32 := Scalar.addi v290 v291
  v292.toNat
def k0_dev10 (d0 : Dev nD) : Nat :=
  let c0_i32_269 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_268 : BitVec 32 := 2#32
  let v321 : BitVec 32 := Scalar.muli v2 c2_i32_268
  let v322 : BitVec 32 := Scalar.addi c0_i32_269 v321
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_270 : BitVec 32 := 1#32
  let v323 : BitVec 32 := Scalar.muli v6 c1_i32_270
  let v324 : BitVec 32 := Scalar.addi v322 v323
  v324.toNat
def k0_dev11 (d0 : Dev nD) : Nat :=
  let c0_i32_295 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_294 : BitVec 32 := 2#32
  let v353 : BitVec 32 := Scalar.muli v2 c2_i32_294
  let v354 : BitVec 32 := Scalar.addi c0_i32_295 v353
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_296 : BitVec 32 := 1#32
  let v355 : BitVec 32 := Scalar.muli v6 c1_i32_296
  let v356 : BitVec 32 := Scalar.addi v354 v355
  v356.toNat
def k0_dev12 (d0 : Dev nD) : Nat :=
  let c0_i32_321 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_320 : BitVec 32 := 2#32
  let v385 : BitVec 32 := Scalar.muli v2 c2_i32_320
  let v386 : BitVec 32 := Scalar.addi c0_i32_321 v385
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_322 : BitVec 32 := 1#32
  let v387 : BitVec 32 := Scalar.muli v6 c1_i32_322
  let v388 : BitVec 32 := Scalar.addi v386 v387
  v388.toNat
def k0_dev13 (d0 : Dev nD) : Nat :=
  let c0_i32_347 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_346 : BitVec 32 := 2#32
  let v417 : BitVec 32 := Scalar.muli v2 c2_i32_346
  let v418 : BitVec 32 := Scalar.addi c0_i32_347 v417
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_348 : BitVec 32 := 1#32
  let v419 : BitVec 32 := Scalar.muli v6 c1_i32_348
  let v420 : BitVec 32 := Scalar.addi v418 v419
  v420.toNat
def k0_dev14 (d0 : Dev nD) : Nat :=
  let c0_i32_373 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_372 : BitVec 32 := 2#32
  let v449 : BitVec 32 := Scalar.muli v2 c2_i32_372
  let v450 : BitVec 32 := Scalar.addi c0_i32_373 v449
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_374 : BitVec 32 := 1#32
  let v451 : BitVec 32 := Scalar.muli v6 c1_i32_374
  let v452 : BitVec 32 := Scalar.addi v450 v451
  v452.toNat
def k0_dev15 (d0 : Dev nD) : Nat :=
  let c0_i32_392 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_391 : BitVec 32 := 2#32
  let v472 : BitVec 32 := Scalar.muli v2 c2_i32_391
  let v473 : BitVec 32 := Scalar.addi c0_i32_392 v472
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_393 : BitVec 32 := 1#32
  let v474 : BitVec 32 := Scalar.muli v6 c1_i32_393
  let v475 : BitVec 32 := Scalar.addi v473 v474
  v475.toNat
def k0_dev16 (d0 : Dev nD) : Nat :=
  let c0_i32_411 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_410 : BitVec 32 := 2#32
  let v495 : BitVec 32 := Scalar.muli v2 c2_i32_410
  let v496 : BitVec 32 := Scalar.addi c0_i32_411 v495
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_412 : BitVec 32 := 1#32
  let v497 : BitVec 32 := Scalar.muli v6 c1_i32_412
  let v498 : BitVec 32 := Scalar.addi v496 v497
  v498.toNat
def k0_dev17 (d0 : Dev nD) : Nat :=
  let c0_i32_430 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_429 : BitVec 32 := 2#32
  let v518 : BitVec 32 := Scalar.muli v2 c2_i32_429
  let v519 : BitVec 32 := Scalar.addi c0_i32_430 v518
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_431 : BitVec 32 := 1#32
  let v520 : BitVec 32 := Scalar.muli v6 c1_i32_431
  let v521 : BitVec 32 := Scalar.addi v519 v520
  v521.toNat
def k0_dev18 (d0 : Dev nD) : Nat :=
  let c0_i32_449 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_448 : BitVec 32 := 2#32
  let v541 : BitVec 32 := Scalar.muli v2 c2_i32_448
  let v542 : BitVec 32 := Scalar.addi c0_i32_449 v541
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_450 : BitVec 32 := 1#32
  let v543 : BitVec 32 := Scalar.muli v6 c1_i32_450
  let v544 : BitVec 32 := Scalar.addi v542 v543
  v544.toNat
def k0_off6 (d0 : Dev nD) (c0_i32_468 : BitVec 32) : Fin 2 → Nat :=
  let c1_i32_466 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v563 : BitVec 32 := Scalar.subi c1_i32_466 v5
  let c8192_i32 : BitVec 32 := 8192#32
  let v564 : BitVec 32 := Scalar.muli v563 c8192_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_467 : BitVec 32 := 4096#32
  let v565 : BitVec 32 := Scalar.muli v2 c4096_i32_467
  let v566 : BitVec 32 := Scalar.addi v564 v565
  let v567 : BitVec 32 := Scalar.addi v566 c0_i32_468
  let c0_i32_475 : BitVec 32 := 0#32
  ![v567.toNat, 0]
def k0_dev19 (d0 : Dev nD) : Nat :=
  let c0_i32_473 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_472 : BitVec 32 := 2#32
  let v568 : BitVec 32 := Scalar.muli v7 c2_i32_472
  let v569 : BitVec 32 := Scalar.addi c0_i32_473 v568
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_474 : BitVec 32 := 1#32
  let v570 : BitVec 32 := Scalar.muli v5 c1_i32_474
  let v571 : BitVec 32 := Scalar.addi v569 v570
  v571.toNat
def k0_off7 (d0 : Dev nD) : Fin 2 → Nat :=
  let c2048_i32_499 : BitVec 32 := 2048#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_494 : BitVec 32 := 1024#32
  let v595 : BitVec 32 := Scalar.muli v5 c1024_i32_494
  ![2048, v595.toNat]
def k0_off8 (d0 : Dev nD) (c0_i32_501 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32_500 : BitVec 32 := 8192#32
  let v601 : BitVec 32 := Scalar.muli v5 c8192_i32_500
  let v602 : BitVec 32 := Scalar.addi v601 c0_i32_501
  let c0_i32_504 : BitVec 32 := 0#32
  ![v602.toNat, 0]
def k0_dev20 (d0 : Dev nD) : Nat :=
  let c0_i32_526 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_525 : BitVec 32 := 2#32
  let v623 : BitVec 32 := Scalar.muli v7 c2_i32_525
  let v624 : BitVec 32 := Scalar.addi c0_i32_526 v623
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_527 : BitVec 32 := 1#32
  let v625 : BitVec 32 := Scalar.muli v5 c1_i32_527
  let v626 : BitVec 32 := Scalar.addi v624 v625
  v626.toNat
def k0_off9 (d0 : Dev nD) : Fin 2 → Nat :=
  let c2560_i32_552 : BitVec 32 := 2560#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_547 : BitVec 32 := 1024#32
  let v650 : BitVec 32 := Scalar.muli v5 c1024_i32_547
  ![2560, v650.toNat]
def k0_dev21 (d0 : Dev nD) : Nat :=
  let c0_i32_579 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_578 : BitVec 32 := 2#32
  let v678 : BitVec 32 := Scalar.muli v7 c2_i32_578
  let v679 : BitVec 32 := Scalar.addi c0_i32_579 v678
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_580 : BitVec 32 := 1#32
  let v680 : BitVec 32 := Scalar.muli v5 c1_i32_580
  let v681 : BitVec 32 := Scalar.addi v679 v680
  v681.toNat
def k0_off10 (d0 : Dev nD) : Fin 2 → Nat :=
  let c3072_i32_605 : BitVec 32 := 3072#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_600 : BitVec 32 := 1024#32
  let v705 : BitVec 32 := Scalar.muli v5 c1024_i32_600
  ![3072, v705.toNat]
def k0_dev22 (d0 : Dev nD) : Nat :=
  let c0_i32_632 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_631 : BitVec 32 := 2#32
  let v733 : BitVec 32 := Scalar.muli v7 c2_i32_631
  let v734 : BitVec 32 := Scalar.addi c0_i32_632 v733
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_633 : BitVec 32 := 1#32
  let v735 : BitVec 32 := Scalar.muli v5 c1_i32_633
  let v736 : BitVec 32 := Scalar.addi v734 v735
  v736.toNat
def k0_off11 (d0 : Dev nD) : Fin 2 → Nat :=
  let c3584_i32_658 : BitVec 32 := 3584#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_653 : BitVec 32 := 1024#32
  let v760 : BitVec 32 := Scalar.muli v5 c1024_i32_653
  ![3584, v760.toNat]
def k0_dev23 (d0 : Dev nD) : Nat :=
  let c0_i32_685 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_684 : BitVec 32 := 2#32
  let v788 : BitVec 32 := Scalar.muli v7 c2_i32_684
  let v789 : BitVec 32 := Scalar.addi c0_i32_685 v788
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_686 : BitVec 32 := 1#32
  let v790 : BitVec 32 := Scalar.muli v5 c1_i32_686
  let v791 : BitVec 32 := Scalar.addi v789 v790
  v791.toNat
def k0_off12 (d0 : Dev nD) : Fin 2 → Nat :=
  let c4096_i32_711 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_706 : BitVec 32 := 1024#32
  let v815 : BitVec 32 := Scalar.muli v5 c1024_i32_706
  ![4096, v815.toNat]
def k0_dev24 (d0 : Dev nD) : Nat :=
  let c0_i32_738 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_737 : BitVec 32 := 2#32
  let v843 : BitVec 32 := Scalar.muli v7 c2_i32_737
  let v844 : BitVec 32 := Scalar.addi c0_i32_738 v843
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_739 : BitVec 32 := 1#32
  let v845 : BitVec 32 := Scalar.muli v5 c1_i32_739
  let v846 : BitVec 32 := Scalar.addi v844 v845
  v846.toNat
def k0_off13 (d0 : Dev nD) : Fin 2 → Nat :=
  let c4608_i32 : BitVec 32 := 4608#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_759 : BitVec 32 := 1024#32
  let v870 : BitVec 32 := Scalar.muli v5 c1024_i32_759
  ![4608, v870.toNat]
def k0_dev25 (d0 : Dev nD) : Nat :=
  let c0_i32_790 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_789 : BitVec 32 := 2#32
  let v898 : BitVec 32 := Scalar.muli v7 c2_i32_789
  let v899 : BitVec 32 := Scalar.addi c0_i32_790 v898
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_791 : BitVec 32 := 1#32
  let v900 : BitVec 32 := Scalar.muli v5 c1_i32_791
  let v901 : BitVec 32 := Scalar.addi v899 v900
  v901.toNat
def k0_off14 (d0 : Dev nD) : Fin 2 → Nat :=
  let c5120_i32 : BitVec 32 := 5120#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_811 : BitVec 32 := 1024#32
  let v925 : BitVec 32 := Scalar.muli v5 c1024_i32_811
  ![5120, v925.toNat]
def k0_dev26 (d0 : Dev nD) : Nat :=
  let c0_i32_842 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_841 : BitVec 32 := 2#32
  let v953 : BitVec 32 := Scalar.muli v7 c2_i32_841
  let v954 : BitVec 32 := Scalar.addi c0_i32_842 v953
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_843 : BitVec 32 := 1#32
  let v955 : BitVec 32 := Scalar.muli v5 c1_i32_843
  let v956 : BitVec 32 := Scalar.addi v954 v955
  v956.toNat
def k0_off15 (d0 : Dev nD) : Fin 2 → Nat :=
  let c5632_i32 : BitVec 32 := 5632#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_863 : BitVec 32 := 1024#32
  let v980 : BitVec 32 := Scalar.muli v5 c1024_i32_863
  ![5632, v980.toNat]
def k0_dev27 (d0 : Dev nD) : Nat :=
  let c0_i32_894 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_893 : BitVec 32 := 2#32
  let v1008 : BitVec 32 := Scalar.muli v7 c2_i32_893
  let v1009 : BitVec 32 := Scalar.addi c0_i32_894 v1008
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_895 : BitVec 32 := 1#32
  let v1010 : BitVec 32 := Scalar.muli v5 c1_i32_895
  let v1011 : BitVec 32 := Scalar.addi v1009 v1010
  v1011.toNat
def k0_off16 (d0 : Dev nD) : Fin 2 → Nat :=
  let c6144_i32 : BitVec 32 := 6144#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_915 : BitVec 32 := 1024#32
  let v1035 : BitVec 32 := Scalar.muli v5 c1024_i32_915
  ![6144, v1035.toNat]
def k0_dev28 (d0 : Dev nD) : Nat :=
  let c0_i32_946 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_945 : BitVec 32 := 2#32
  let v1063 : BitVec 32 := Scalar.muli v7 c2_i32_945
  let v1064 : BitVec 32 := Scalar.addi c0_i32_946 v1063
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_947 : BitVec 32 := 1#32
  let v1065 : BitVec 32 := Scalar.muli v5 c1_i32_947
  let v1066 : BitVec 32 := Scalar.addi v1064 v1065
  v1066.toNat
def k0_off17 (d0 : Dev nD) : Fin 2 → Nat :=
  let c6656_i32 : BitVec 32 := 6656#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_967 : BitVec 32 := 1024#32
  let v1090 : BitVec 32 := Scalar.muli v5 c1024_i32_967
  ![6656, v1090.toNat]
def k0_dev29 (d0 : Dev nD) : Nat :=
  let c0_i32_998 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_997 : BitVec 32 := 2#32
  let v1118 : BitVec 32 := Scalar.muli v7 c2_i32_997
  let v1119 : BitVec 32 := Scalar.addi c0_i32_998 v1118
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_999 : BitVec 32 := 1#32
  let v1120 : BitVec 32 := Scalar.muli v5 c1_i32_999
  let v1121 : BitVec 32 := Scalar.addi v1119 v1120
  v1121.toNat
def k0_off18 (d0 : Dev nD) : Fin 2 → Nat :=
  let c7168_i32 : BitVec 32 := 7168#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1019 : BitVec 32 := 1024#32
  let v1145 : BitVec 32 := Scalar.muli v5 c1024_i32_1019
  ![7168, v1145.toNat]
def k0_dev30 (d0 : Dev nD) : Nat :=
  let c0_i32_1050 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1049 : BitVec 32 := 2#32
  let v1173 : BitVec 32 := Scalar.muli v7 c2_i32_1049
  let v1174 : BitVec 32 := Scalar.addi c0_i32_1050 v1173
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1051 : BitVec 32 := 1#32
  let v1175 : BitVec 32 := Scalar.muli v5 c1_i32_1051
  let v1176 : BitVec 32 := Scalar.addi v1174 v1175
  v1176.toNat
def k0_off19 (d0 : Dev nD) : Fin 2 → Nat :=
  let c7680_i32 : BitVec 32 := 7680#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1071 : BitVec 32 := 1024#32
  let v1200 : BitVec 32 := Scalar.muli v5 c1024_i32_1071
  ![7680, v1200.toNat]
def k0_dev31 (d0 : Dev nD) : Nat :=
  let c0_i32_1102 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1101 : BitVec 32 := 2#32
  let v1228 : BitVec 32 := Scalar.muli v7 c2_i32_1101
  let v1229 : BitVec 32 := Scalar.addi c0_i32_1102 v1228
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1103 : BitVec 32 := 1#32
  let v1230 : BitVec 32 := Scalar.muli v5 c1_i32_1103
  let v1231 : BitVec 32 := Scalar.addi v1229 v1230
  v1231.toNat
def k0_dev32 (d0 : Dev nD) : Nat :=
  let c0_i32_1149 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1148 : BitVec 32 := 2#32
  let v1277 : BitVec 32 := Scalar.muli v7 c2_i32_1148
  let v1278 : BitVec 32 := Scalar.addi c0_i32_1149 v1277
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1150 : BitVec 32 := 1#32
  let v1279 : BitVec 32 := Scalar.muli v5 c1_i32_1150
  let v1280 : BitVec 32 := Scalar.addi v1278 v1279
  v1280.toNat
def k0_dev33 (d0 : Dev nD) : Nat :=
  let c0_i32_1196 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1195 : BitVec 32 := 2#32
  let v1326 : BitVec 32 := Scalar.muli v7 c2_i32_1195
  let v1327 : BitVec 32 := Scalar.addi c0_i32_1196 v1326
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1197 : BitVec 32 := 1#32
  let v1328 : BitVec 32 := Scalar.muli v5 c1_i32_1197
  let v1329 : BitVec 32 := Scalar.addi v1327 v1328
  v1329.toNat
def k0_dev34 (d0 : Dev nD) : Nat :=
  let c0_i32_1243 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1242 : BitVec 32 := 2#32
  let v1375 : BitVec 32 := Scalar.muli v7 c2_i32_1242
  let v1376 : BitVec 32 := Scalar.addi c0_i32_1243 v1375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1244 : BitVec 32 := 1#32
  let v1377 : BitVec 32 := Scalar.muli v5 c1_i32_1244
  let v1378 : BitVec 32 := Scalar.addi v1376 v1377
  v1378.toNat
def k0_off20 (d0 : Dev nD) (c0_i32_1691 : BitVec 32) : Fin 2 → Nat :=
  let c1_i32_1687 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1745 : BitVec 32 := Scalar.subi c1_i32_1687 v5
  let c8192_i32_1688 : BitVec 32 := 8192#32
  let v1746 : BitVec 32 := Scalar.muli v1745 c8192_i32_1688
  let c1_i32_1689 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1747 : BitVec 32 := Scalar.subi c1_i32_1689 v2
  let c4096_i32_1690 : BitVec 32 := 4096#32
  let v1748 : BitVec 32 := Scalar.muli v1747 c4096_i32_1690
  let v1749 : BitVec 32 := Scalar.addi v1746 v1748
  let v1750 : BitVec 32 := Scalar.addi v1749 c0_i32_1691
  let c0_i32_1698 : BitVec 32 := 0#32
  ![v1750.toNat, 0]
-- ==== Reference.lean ====
abbrev S16384x2048 : Shape := ⟨2, ![16384, 2048]⟩

abbrev nBuf : Space → Nat
  | .hbm => 2
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Body.lean ====
/-
# The body of the all-to-all kernel, written with its loops

The printed kernel is one straight line of memory operations. Here the same line is written as loops over the sixteen
chunks, with one named view per buffer and chunk, and the two are shown equal. Everything after this file speaks of the
named views only.
-/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.AllToAll

open Cert.KernelIdeal Cert.KernelIdeal.Gen
open Idealize.ShloMosaic Idealize.SL.Sem

variable {F : FTy → Type} [FloatOps F]

/-! ## Running a list of steps -/

/-- The steps `f a`, for `a` along the list, one after the other. -/
def seq {E : Type → Type} {α : Type} (f : α → Prog E PUnit) : List α → Prog E PUnit
  | [] => .ret ⟨⟩
  | a :: l => (f a).bind fun _ => seq f l

/-- The sixteen chunks in order. -/
def chunks : List (Fin 16) := [0, 1, 2, 3, 4, 5, 6, 7, 8, 9, 10, 11, 12, 13, 14, 15]

/-- The chunks after the first, in order. -/
def chunks₁ : List (Fin 16) := [1, 2, 3, 4, 5, 6, 7, 8, 9, 10, 11, 12, 13, 14, 15]

/-- The slot of a ring of four that chunk `k` uses. -/
def slot (k : Fin 16) : Fin 4 := ⟨k.val % 4, Nat.mod_lt _ (by decide)⟩

/-! ## The bounds of the chunks -/

theorem inbY4 (j : Fin 4) : ∀ a, (![j.val, 0, 0] : Fin 3 → Nat) a + S1x256x1024.size a ≤ S4x256x1024.size a := by
  decide +revert
theorem inbL4 (j : Fin 4) : ∀ a, (![j.val, 0, 0] : Fin 3 → Nat) a + S1x512x1024.size a ≤ S4x512x1024.size a := by
  decide +revert
theorem inbY (k : Fin 16) : ∀ a, (![k.val, 0, 0] : Fin 3 → Nat) a + S1x256x1024.size a ≤ S16x256x1024.size a := by
  decide +revert
theorem inbL (k : Fin 16) : ∀ a, (![k.val, 0, 0] : Fin 3 → Nat) a + S1x512x1024.size a ≤ S16x512x1024.size a := by
  decide +revert
theorem inbS4 (j : Fin 4) : ∀ a, (![j.val] : Fin 1 → Nat) a + S1.size a ≤ S4.size a := by decide +revert
theorem inbS16 (k : Fin 16) : ∀ a, (![k.val] : Fin 1 → Nat) a + S1.size a ≤ S16.size a := by decide +revert
theorem inbXL (c : Dev nD) (k : Fin 16) :
    ∀ a, (![512 * k.val, k0_off2 c 1] : Fin 2 → Nat) a + S512x1024.size a ≤ S8192x2048.size a := by
  revert c k; decide +kernel

theorem packedY (k : Fin 16) :
    (Rect.unit (s := S16x256x1024) ![k.val, 0, 0] S1x256x1024.size (inbY k)).PackedRows (EltTy.packing .bf16) := by
  revert k; decide
theorem packedL (k : Fin 16) :
    (Rect.unit (s := S16x512x1024) ![k.val, 0, 0] S1x512x1024.size (inbL k)).PackedRows (EltTy.packing .bf16) := by
  revert k; decide
theorem wordsY (k : Fin 16) :
    (Rect.unit (s := S16x256x1024) ![k.val, 0, 0] S1x256x1024.size (inbY k)).WholeWords (EltTy.packing .bf16) := by
  revert k; decide
theorem wordsL (k : Fin 16) :
    (Rect.unit (s := S16x512x1024) ![k.val, 0, 0] S1x512x1024.size (inbL k)).WholeWords (EltTy.packing .bf16) := by
  revert k; decide

/-! ## The chunks and the semaphores -/

/-- The argument and the result, in the device's main memory. -/
abbrev xW : Memref sig .tc .hbm S8192x2048 .f32 := Memref.whole main_arg0
abbrev oW : Memref sig .tc .hbm S16384x1024 .bf16 := Memref.whole main_v1
/-- The two rings of four single-precision slots the argument is packed into. -/
abbrev fyW : Memref sig .tc .vmem S4x256x1024 .f32 := Memref.whole cc0_scratch0
abbrev flW : Memref sig .tc .vmem S4x512x1024 .f32 := Memref.whole cc0_scratch1
/-- The rounded chunks to send, the chunks received, and the rounded chunks the device keeps. -/
abbrev ybW : Memref sig .tc .vmem S16x256x1024 .bf16 := Memref.whole cc0_scratch2
abbrev rbW : Memref sig .tc .vmem S16x256x1024 .bf16 := Memref.whole cc0_scratch3
abbrev lbW : Memref sig .tc .vmem S16x512x1024 .bf16 := Memref.whole cc0_scratch4

/-- Rows of the argument for the other device of the row, chunk `k`. -/
abbrev xY (c : Dev nD) (k : Fin 16) : Memref sig .tc .hbm S256x1024 .f32 :=
  xW.slice (Rect.unit (s := S8192x2048) (k0_off1 c (BitVec.ofNat 32 (256 * k.val))) S256x1024.size (k0_off1_inb c k))
    (fun _ => rfl)
/-- Rows of the argument the device keeps, chunk `k`. -/
abbrev xL (c : Dev nD) (k : Fin 16) : Memref sig .tc .hbm S512x1024 .f32 :=
  xW.slice (Rect.unit (s := S8192x2048) ![512 * k.val, k0_off2 c 1] S512x1024.size (inbXL c k)) (fun _ => rfl)
abbrev fy (j : Fin 4) : Memref sig .tc .vmem S256x1024 .f32 :=
  (fyW.slice (Rect.unit (s := S4x256x1024) ![j.val, 0, 0] S1x256x1024.size (inbY4 j)) (fun _ => rfl)).squeeze
    S256x1024 squeezes_S1x256x1024_S256x1024
abbrev fl (j : Fin 4) : Memref sig .tc .vmem S512x1024 .f32 :=
  (flW.slice (Rect.unit (s := S4x512x1024) ![j.val, 0, 0] S1x512x1024.size (inbL4 j)) (fun _ => rfl)).squeeze
    S512x1024 squeezes_S1x512x1024_S512x1024
abbrev yb (k : Fin 16) : Memref sig .tc .vmem S256x1024 .bf16 :=
  (ybW.slice (Rect.unit (s := S16x256x1024) ![k.val, 0, 0] S1x256x1024.size (inbY k)) (fun _ => rfl)).squeeze
    S256x1024 squeezes_S1x256x1024_S256x1024
abbrev rb (k : Fin 16) : Memref sig .tc .vmem S256x1024 .bf16 :=
  (rbW.slice (Rect.unit (s := S16x256x1024) ![k.val, 0, 0] S1x256x1024.size (inbY k)) (fun _ => rfl)).squeeze
    S256x1024 squeezes_S1x256x1024_S256x1024
abbrev lb (k : Fin 16) : Memref sig .tc .vmem S512x1024 .bf16 :=
  (lbW.slice (Rect.unit (s := S16x512x1024) ![k.val, 0, 0] S1x512x1024.size (inbL k)) (fun _ => rfl)).squeeze
    S512x1024 squeezes_S1x512x1024_S512x1024
/-- The rows of a result that chunk `k`, received along the row by device `c`, goes to. -/
abbrev oF (c : Dev nD) (k : Fin 16) : Memref sig .tc .hbm S256x1024 .bf16 :=
  oW.slice (Rect.unit (s := S16384x1024) (k0_off6 c (BitVec.ofNat 32 (256 * k.val))) S256x1024.size (k0_off6_inb c k))
    (fun _ => rfl)
/-- The rows of the result that chunk `k` of the part device `c` keeps goes to. -/
abbrev oL (c : Dev nD) (k : Fin 16) : Memref sig .tc .hbm S512x1024 .bf16 :=
  oW.slice (Rect.unit (s := S16384x1024) (k0_off8 c (BitVec.ofNat 32 (512 * k.val))) S512x1024.size (k0_off8_inb c k))
    (fun _ => rfl)
/-- The rows of device `c`'s result that chunk `k` from the other device of the column lands in. -/
abbrev oX (c : Dev nD) (k : Fin 16) : Memref sig .tc .hbm S256x1024 .bf16 :=
  oW.slice (Rect.unit (s := S16384x1024) (k0_off20 c (BitVec.ofNat 32 (256 * k.val))) S256x1024.size (k0_off20_inb c k))
    (fun _ => rfl)

abbrev sem4 (a : DmaSems sig S4) (j : Fin 4) : DmaSem sig :=
  ((a.slice (Rect.unit (s := S4) ![j.val] S1.size (inbS4 j))).squeeze S_ squeezes_S1_S_).sem
abbrev sem16 (a : DmaSems sig S16) (k : Fin 16) : DmaSem sig :=
  ((a.slice (Rect.unit (s := S16) ![k.val] S1.size (inbS16 k))).squeeze S_ squeezes_S1_S_).sem

abbrev sYP (j : Fin 4) : DmaSem sig := sem4 cc0_scratch5 j
abbrev sYS (k : Fin 16) : DmaSem sig := sem16 cc0_scratch6 k
abbrev sYR (k : Fin 16) : DmaSem sig := sem16 cc0_scratch7 k
abbrev sXS (k : Fin 16) : DmaSem sig := sem16 cc0_scratch8 k
abbrev sXR (k : Fin 16) : DmaSem sig := sem16 cc0_scratch9 k
abbrev sST (k : Fin 16) : DmaSem sig := sem16 cc0_scratch10 k
abbrev sLP (j : Fin 4) : DmaSem sig := sem4 cc0_scratch11 j
abbrev sLO (k : Fin 16) : DmaSem sig := sem16 cc0_scratch12 k
/-- The barrier semaphore of the device. -/
abbrev sBar : Sem sig := (SemArray.scalar (sig.barrier 0 rfl) : Sems sig S_).sem

/-- The other device of the same row, and the other device of the same column. -/
def ynb (c : Dev nD) : Dev nD := ⟨k0_dev3 c, k0_dev3_lt c⟩
def xnb (c : Dev nD) : Dev nD := ⟨k0_dev19 c, k0_dev19_lt c⟩

/-! ## The steps -/

/-- Start packing chunk `k` for the other device of the row. -/
def startY (c : Dev nD) (k : Fin 16) : Prog (TpuEff nD τ sig (Elt F) Λ₀ .tc) PUnit :=
  .op (.enqueueDma (xY c k) (.here (fy (slot k))) (.dma (sYP (slot k))) (View.wordExact_bits rfl)
    ((View.wordExact_bits rfl).reshape _ _) ⟨Or.inl rfl, trivial⟩) .ret

/-- Start packing chunk `k` of the part the device keeps. -/
def startL (c : Dev nD) (k : Fin 16) : Prog (TpuEff nD τ sig (Elt F) Λ₀ .tc) PUnit :=
  .op (.enqueueDma (xL c k) (.here (fl (slot k))) (.dma (sLP (slot k))) (View.wordExact_bits rfl)
    ((View.wordExact_bits rfl).reshape _ _) ⟨Or.inl rfl, trivial⟩) .ret

/-- Wait for the packed chunk `k` and round it into its place among the chunks to send. -/
def castY (c : Dev nD) (k : Fin 16) : Prog (TpuEff nD τ sig (Elt F) Λ₀ .tc) PUnit :=
  .op (.waitDma2 (sYP (slot k)) (xY c k) (fy (slot k)) (View.wordExact_bits rfl)
    ((View.wordExact_bits rfl).reshape _ _)) fun _ =>
  .op (.load fyW (Rect.unit (s := S4x256x1024) ![(slot k).val, 0, 0] S1x256x1024.size (inbY4 (slot k))).toLoadRect
    (View.loadsAt_vmem h_S1x256x1024)) fun v =>
  .op (.load ybW (Rect.unit (s := S16x256x1024) ![k.val, 0, 0] S1x256x1024.size (inbY k)).toLoadRect
    (View.loadsAt_vmem h_S1x256x1024)) fun _ =>
  .op (.store ybW (Rect.unit (s := S16x256x1024) ![k.val, 0, 0] S1x256x1024.size (inbY k)) (k0_pay1 v) Finset.univ
    (View.stores_vmem h_S1x256x1024 ((Memref.isWhole_whole cc0_scratch2).storeExact_slice rfl _ (packedY k))
      (fun _ => rfl)) (.inl rfl)) .ret

/-- Wait for the packed chunk `k` of the part the device keeps and round it into its place. -/
def castL (c : Dev nD) (k : Fin 16) : Prog (TpuEff nD τ sig (Elt F) Λ₀ .tc) PUnit :=
  .op (.waitDma2 (sLP (slot k)) (xL c k) (fl (slot k)) (View.wordExact_bits rfl)
    ((View.wordExact_bits rfl).reshape _ _)) fun _ =>
  .op (.load flW (Rect.unit (s := S4x512x1024) ![(slot k).val, 0, 0] S1x512x1024.size (inbL4 (slot k))).toLoadRect
    (View.loadsAt_vmem h_S1x512x1024)) fun v =>
  .op (.load lbW (Rect.unit (s := S16x512x1024) ![k.val, 0, 0] S1x512x1024.size (inbL k)).toLoadRect
    (View.loadsAt_vmem h_S1x512x1024)) fun _ =>
  .op (.store lbW (Rect.unit (s := S16x512x1024) ![k.val, 0, 0] S1x512x1024.size (inbL k)) (k0_pay19 v) Finset.univ
    (View.stores_vmem h_S1x512x1024 ((Memref.isWhole_whole cc0_scratch4).storeExact_slice rfl _ (packedL k))
      (fun _ => rfl)) (.inl rfl)) .ret

/-- Start the packing that reuses the slot of chunk `k`, four chunks later, where there is one. -/
def nextY (c : Dev nD) (k : Fin 16) : Prog (TpuEff nD τ sig (Elt F) Λ₀ .tc) PUnit :=
  if h : k.val + 4 < 16 then startY c ⟨k.val + 4, h⟩ else .ret ⟨⟩
def nextL (c : Dev nD) (k : Fin 16) : Prog (TpuEff nD τ sig (Elt F) Λ₀ .tc) PUnit :=
  if h : k.val + 4 < 16 then startL c ⟨k.val + 4, h⟩ else .ret ⟨⟩

/-- Send chunk `k` along the row. -/
def sendY (c : Dev nD) (k : Fin 16) : Prog (TpuEff nD τ sig (Elt F) Λ₀ .tc) PUnit :=
  .op (.enqueueDma (yb k) (.remote (Dev.tc (ynb c)) (rb k) (.dma (sYS k))) (.dma (sYR k))
    (((Memref.isWhole_whole cc0_scratch2).wordExact_slice rfl _ (wordsY k)).reshape _ _)
    (((Memref.isWhole_whole cc0_scratch3).wordExact_slice rfl _ (wordsY k)).reshape _ _)
    ⟨⟨rfl, Or.inl rfl⟩, trivial⟩) .ret

/-- Signal the two neighbours and wait for both. -/
def barrier (c : Dev nD) : Prog (TpuEff nD τ sig (Elt F) Λ₀ .tc) PUnit :=
  .op (.semSignal (Dev.tc (ynb c)) sBar 1) fun _ =>
  .op (.semSignal (Dev.tc (xnb c)) sBar 1) fun _ =>
  .op (.semWait sBar 2) .ret

/-- Wait for chunk `k` from along the row and pass it on along the column, storing it as well. -/
def relay (c : Dev nD) (k : Fin 16) : Prog (TpuEff nD τ sig (Elt F) Λ₀ .tc) PUnit :=
  .op (.waitDma2 (sYR k) (yb k) (rb k)
    (((Memref.isWhole_whole cc0_scratch2).wordExact_slice rfl _ (wordsY k)).reshape _ _)
    (((Memref.isWhole_whole cc0_scratch3).wordExact_slice rfl _ (wordsY k)).reshape _ _)) fun _ =>
  .op (.enqueueDma (rb k) (.remote (Dev.tc (xnb c)) (oF c k) (.dma (sXS k))) (.dma (sXR k))
    (((Memref.isWhole_whole cc0_scratch3).wordExact_slice rfl _ (wordsY k)).reshape _ _)
    ((Memref.isWhole_whole main_v1).wordExact_slice rfl _ (k0_off6_wordsbf16 c k))
    ⟨⟨rfl, Or.inl rfl⟩, trivial⟩) fun _ =>
  .op (.enqueueDma (rb k) (.here (oF c k)) (.dma (sST k))
    (((Memref.isWhole_whole cc0_scratch3).wordExact_slice rfl _ (wordsY k)).reshape _ _)
    ((Memref.isWhole_whole main_v1).wordExact_slice rfl _ (k0_off6_wordsbf16 c k)) ⟨Or.inl rfl, trivial⟩) .ret

/-- Store chunk `k` of the part the device keeps. -/
def storeL (c : Dev nD) (k : Fin 16) : Prog (TpuEff nD τ sig (Elt F) Λ₀ .tc) PUnit :=
  .op (.enqueueDma (lb k) (.here (oL c k)) (.dma (sLO k))
    (((Memref.isWhole_whole cc0_scratch4).wordExact_slice rfl _ (wordsL k)).reshape _ _)
    ((Memref.isWhole_whole main_v1).wordExact_slice rfl _ (k0_off8_wordsbf16 c k)) ⟨Or.inl rfl, trivial⟩) .ret

def waitYS (c : Dev nD) (k : Fin 16) : Prog (TpuEff nD τ sig (Elt F) Λ₀ .tc) PUnit :=
  .op (.waitDma2 (sYS k) (rb k) (yb k)
    (((Memref.isWhole_whole cc0_scratch3).wordExact_slice rfl _ (wordsY k)).reshape _ _)
    (((Memref.isWhole_whole cc0_scratch2).wordExact_slice rfl _ (wordsY k)).reshape _ _)) .ret
def waitXS (c : Dev nD) (k : Fin 16) : Prog (TpuEff nD τ sig (Elt F) Λ₀ .tc) PUnit :=
  .op (.waitDma2 (sXS k) (oF c k) (rb k)
    ((Memref.isWhole_whole main_v1).wordExact_slice rfl _ (k0_off6_wordsbf16 c k))
    (((Memref.isWhole_whole cc0_scratch3).wordExact_slice rfl _ (wordsY k)).reshape _ _)) .ret
def waitST (c : Dev nD) (k : Fin 16) : Prog (TpuEff nD τ sig (Elt F) Λ₀ .tc) PUnit :=
  .op (.waitDma2 (sST k) (rb k) (oF c k)
    (((Memref.isWhole_whole cc0_scratch3).wordExact_slice rfl _ (wordsY k)).reshape _ _)
    ((Memref.isWhole_whole main_v1).wordExact_slice rfl _ (k0_off6_wordsbf16 c k))) .ret
def waitLO (c : Dev nD) (k : Fin 16) : Prog (TpuEff nD τ sig (Elt F) Λ₀ .tc) PUnit :=
  .op (.waitDma2 (sLO k) (lb k) (oL c k)
    (((Memref.isWhole_whole cc0_scratch4).wordExact_slice rfl _ (wordsL k)).reshape _ _)
    ((Memref.isWhole_whole main_v1).wordExact_slice rfl _ (k0_off8_wordsbf16 c k))) .ret
def waitXR (c : Dev nD) (k : Fin 16) : Prog (TpuEff nD τ sig (Elt F) Λ₀ .tc) PUnit :=
  .op (.waitDma2 (sXR k) (rb k) (oX c k)
    (((Memref.isWhole_whole cc0_scratch3).wordExact_slice rfl _ (wordsY k)).reshape _ _)
    ((Memref.isWhole_whole main_v1).wordExact_slice rfl _ (k0_off20_wordsbf16 c k))) .ret

/-! ## The body -/

/-- One step of the loop that sends: round chunk `k`, reuse its slot, send it. -/
def stepY (c : Dev nD) (k : Fin 16) : Prog (TpuEff nD τ sig (Elt F) Λ₀ .tc) PUnit :=
  (castY c k).bind fun _ => (nextY c k).bind fun _ => sendY c k

/-- One step of the loop that passes on: chunk `k` received, passed on and stored; chunk `k` kept, rounded and
    stored. -/
def stepX (c : Dev nD) (k : Fin 16) : Prog (TpuEff nD τ sig (Elt F) Λ₀ .tc) PUnit :=
  (relay c k).bind fun _ => (castL c k).bind fun _ => (nextL c k).bind fun _ => storeL c k

/-- What device `c` runs. -/
def deviceBody (c : Dev nD) : Prog (TpuEff nD τ sig (Elt F) Λ₀ .tc) PUnit :=
  (seq (startY c) [0, 1, 2, 3]).bind fun _ =>
  (seq (startL c) [0, 1, 2, 3]).bind fun _ =>
  (castY c 0).bind fun _ =>
  (nextY c 0).bind fun _ =>
  (barrier c).bind fun _ =>
  (sendY c 0).bind fun _ =>
  (seq (stepY c) chunks₁).bind fun _ =>
  (seq (stepX c) chunks).bind fun _ =>
  (seq (waitYS c) chunks).bind fun _ =>
  (seq (waitXS c) chunks).bind fun _ =>
  (seq (waitST c) chunks).bind fun _ =>
  (seq (waitLO c) chunks).bind fun _ =>
  seq (waitXR c) chunks

theorem op_congr {E : Type → Type} {α β : Type} {e e' : E β} {k k' : β → Prog E α} (he : e = e')
    (hk : ∀ x, k x = k' x) : Prog.op e k = Prog.op e' k' := by rw [he, funext hk]

set_option maxHeartbeats 8000000 in
set_option maxRecDepth 65536 in
/-- The printed body is the loops. -/
theorem body_eq (t : Fin cfg0.N) : bodyAt0 (F := F) t = .op .deviceId fun c => deviceBody c := by
  refine op_congr rfl fun c => ?_
  repeat refine op_congr rfl fun _ => ?_
  rfl

end Cert.AllToAll
-- ==== Proof.Views.lean ====
/-
# The chunks by their coordinates, and what they hold

Every chunk of the kernel is a block of rows of a whole buffer. This file says which elements each block covers, shows
that the blocks of a buffer partition it, and names the contents the buffers hold when the kernel is done with them:
what each device rounds, what it receives, and its result.
-/
module

public import proofs.«01_k».proof.Proof.Body
public import Idealize.ShloMosaic.Lib.Pipeline.Value
public import Idealize.ShloMosaic.Lib.Pipeline.ValueKit.Geometry
public import Idealize.ShloMosaic.Lib.Exec.Geometry

@[expose] public section

noncomputable section

namespace Cert.AllToAll

open Cert.KernelIdeal Cert.KernelIdeal.Gen
open Idealize.ShloMosaic Idealize.SL.Sem

variable {F : FTy → Type} [FloatOps F]

/-! ## Devices -/

theorem ynb_val (c : Dev nD) : (ynb c).val = (2 * (c.val / 2) + 1) - c.val % 2 := k0_dev3_eq c
theorem xnb_val (c : Dev nD) : (xnb c).val = (c.val % 2 + 2) - 2 * (c.val / 2) := k0_dev19_eq c
theorem dev_lt (c : Dev nD) : c.val < 4 := c.isLt
theorem ynb_ynb (c : Dev nD) : ynb (ynb c) = c := by
  have := dev_lt c; apply Fin.ext; rw [ynb_val, ynb_val]; omega
theorem xnb_xnb (c : Dev nD) : xnb (xnb c) = c := by
  have := dev_lt c; apply Fin.ext; rw [xnb_val, xnb_val]; omega

theorem ynb_div (c : Dev nD) : (ynb c).val / 2 = c.val / 2 := by have := dev_lt c; rw [ynb_val]; omega
theorem ynb_mod (c : Dev nD) : (ynb c).val % 2 = 1 - c.val % 2 := by have := dev_lt c; rw [ynb_val]; omega
theorem xnb_div (c : Dev nD) : (xnb c).val / 2 = 1 - c.val / 2 := by have := dev_lt c; rw [xnb_val]; omega
theorem xnb_mod (c : Dev nD) : (xnb c).val % 2 = c.val % 2 := by have := dev_lt c; rw [xnb_val]; omega

/-! ## Where an element of a chunk lies -/

theorem emb_xY (c : Dev nD) (k : Fin 16) (x : S256x1024.Idx) :
    ((xY c k).view.emb x 0).val = 4096 * (c.val / 2) + 256 * k.val + (x 0).val
      ∧ ((xY c k).view.emb x 1).val = 1024 - 1024 * (c.val % 2) + (x 1).val := by
  have h := k0_off1_eq c k
  constructor
  · show k0_off1 c (BitVec.ofNat 32 (256 * k.val)) 0 + 1 * (x 0).val = _
    rw [h, Nat.one_mul]; rfl
  · show k0_off1 c (BitVec.ofNat 32 (256 * k.val)) 1 + 1 * (x 1).val = _
    rw [h, Nat.one_mul]; rfl

theorem emb_xL (c : Dev nD) (k : Fin 16) (x : S512x1024.Idx) :
    ((xL c k).view.emb x 0).val = 512 * k.val + (x 0).val
      ∧ ((xL c k).view.emb x 1).val = 1024 * (c.val % 2) + (x 1).val := by
  constructor
  · show 512 * k.val + 1 * (x 0).val = _
    rw [Nat.one_mul]
  · show k0_off2 c 1 + 1 * (x 1).val = _
    rw [k0_off2_eq, Nat.one_mul]; rfl

theorem emb_oF (c : Dev nD) (k : Fin 16) (x : S256x1024.Idx) :
    ((oF c k).view.emb x 0).val = (4096 * (c.val / 2) + 256 * k.val + 8192) - 8192 * (c.val % 2) + (x 0).val
      ∧ ((oF c k).view.emb x 1).val = (x 1).val := by
  have h := k0_off6_eq c k
  constructor
  · show k0_off6 c (BitVec.ofNat 32 (256 * k.val)) 0 + 1 * (x 0).val = _
    rw [h, Nat.one_mul]; rfl
  · show k0_off6 c (BitVec.ofNat 32 (256 * k.val)) 1 + 1 * (x 1).val = _
    rw [h, Nat.one_mul]; exact Nat.zero_add _

theorem emb_oL (c : Dev nD) (k : Fin 16) (x : S512x1024.Idx) :
    ((oL c k).view.emb x 0).val = 8192 * (c.val % 2) + 512 * k.val + (x 0).val
      ∧ ((oL c k).view.emb x 1).val = (x 1).val := by
  have h := k0_off8_eq c k
  constructor
  · show k0_off8 c (BitVec.ofNat 32 (512 * k.val)) 0 + 1 * (x 0).val = _
    rw [h, Nat.one_mul]; rfl
  · show k0_off8 c (BitVec.ofNat 32 (512 * k.val)) 1 + 1 * (x 1).val = _
    rw [h, Nat.one_mul]; exact Nat.zero_add _

/-- An element of a block with a leading axis of extent one dropped, the axis put back. -/
theorem put_unit256 (x : S256x1024.Idx) :
    Shape.reshapeEquiv squeezes_S1x256x1024_S256x1024.numel_eq x = (Fin.cons ⟨0, Nat.one_pos⟩ x : S1x256x1024.Idx) :=
  Shape.reshapeEquiv_cons_one (n := 2) (d := ![256, 1024]) _ x
theorem put_unit512 (x : S512x1024.Idx) :
    Shape.reshapeEquiv squeezes_S1x512x1024_S512x1024.numel_eq x = (Fin.cons ⟨0, Nat.one_pos⟩ x : S1x512x1024.Idx) :=
  Shape.reshapeEquiv_cons_one (n := 2) (d := ![512, 1024]) _ x

/-- The element of a block of a ring or of a stack of chunks, its coordinates given. -/
def at256 {n : Nat} (k : Fin n) (x : S256x1024.Idx) : (⟨3, ![n, 256, 1024]⟩ : Shape).Idx :=
  fun a => match a with | ⟨0, _⟩ => k | ⟨1, _⟩ => x 0 | ⟨2, _⟩ => x 1
def at512 {n : Nat} (k : Fin n) (x : S512x1024.Idx) : (⟨3, ![n, 512, 1024]⟩ : Shape).Idx :=
  fun a => match a with | ⟨0, _⟩ => k | ⟨1, _⟩ => x 0 | ⟨2, _⟩ => x 1

theorem emb_fy (j : Fin 4) (x : S256x1024.Idx) : (fy j).view.emb x = at256 j x := by
  show (Rect.unit (s := S4x256x1024) ![j.val, 0, 0] S1x256x1024.size (inbY4 j)).emb (Shape.reshapeEquiv _ x) = _
  rw [put_unit256]
  funext a; apply Fin.ext
  fin_cases a
  · show j.val + 1 * 0 = j.val; omega
  · show 0 + 1 * (x 0).val = (x 0).val; omega
  · show 0 + 1 * (x 1).val = (x 1).val; omega
theorem emb_fl (j : Fin 4) (x : S512x1024.Idx) : (fl j).view.emb x = at512 j x := by
  show (Rect.unit (s := S4x512x1024) ![j.val, 0, 0] S1x512x1024.size (inbL4 j)).emb (Shape.reshapeEquiv _ x) = _
  rw [put_unit512]
  funext a; apply Fin.ext
  fin_cases a
  · show j.val + 1 * 0 = j.val; omega
  · show 0 + 1 * (x 0).val = (x 0).val; omega
  · show 0 + 1 * (x 1).val = (x 1).val; omega
theorem emb_yb (k : Fin 16) (x : S256x1024.Idx) : (yb k).view.emb x = at256 k x := by
  show (Rect.unit (s := S16x256x1024) ![k.val, 0, 0] S1x256x1024.size (inbY k)).emb (Shape.reshapeEquiv _ x) = _
  rw [put_unit256]
  funext a; apply Fin.ext
  fin_cases a
  · show k.val + 1 * 0 = k.val; omega
  · show 0 + 1 * (x 0).val = (x 0).val; omega
  · show 0 + 1 * (x 1).val = (x 1).val; omega
theorem emb_rb (k : Fin 16) (x : S256x1024.Idx) : (rb k).view.emb x = at256 k x := emb_yb k x
theorem emb_lb (k : Fin 16) (x : S512x1024.Idx) : (lb k).view.emb x = at512 k x := by
  show (Rect.unit (s := S16x512x1024) ![k.val, 0, 0] S1x512x1024.size (inbL k)).emb (Shape.reshapeEquiv _ x) = _
  rw [put_unit512]
  funext a; apply Fin.ext
  fin_cases a
  · show k.val + 1 * 0 = k.val; omega
  · show 0 + 1 * (x 0).val = (x 0).val; omega
  · show 0 + 1 * (x 1).val = (x 1).val; omega

/-! ## Which elements a chunk covers -/

/-- Which chunk an element of a ring or of a stack lies in. -/
abbrev pieceOf {n h : Nat} (i : (⟨3, ![n, h, 1024]⟩ : Shape).Idx) : Fin n := i 0

theorem dev_half (c : Dev nD) : c.val / 2 < 2 := by have := dev_lt c; omega

/-- Which block of the argument an element lies in, seen from device `c`: a chunk it keeps (`0`), a chunk it sends
    (`1`), or rows it does not read (`2`). -/
def pieceX (c : Dev nD) (i : S8192x2048.Idx) : Fin 3 × Fin 16 :=
  if (i 1).val / 1024 = c.val % 2 then (0, ⟨(i 0).val / 512 % 16, Nat.mod_lt _ (by decide)⟩)
  else if (i 0).val / 4096 = c.val / 2 then (1, ⟨(i 0).val % 4096 / 256 % 16, Nat.mod_lt _ (by decide)⟩)
  else (2, ⟨(i 0).val % 4096 / 256 % 16, Nat.mod_lt _ (by decide)⟩)

/-- Which block of the result an element lies in, seen from device `c`: a chunk it keeps (`0`), a chunk received along
    the row (`1`), or a chunk received along the column (`2`). -/
def pieceO (c : Dev nD) (i : S16384x1024.Idx) : Fin 3 × Fin 16 :=
  if (i 0).val / 8192 = c.val % 2 then (0, ⟨(i 0).val / 512 % 16, Nat.mod_lt _ (by decide)⟩)
  else if (i 0).val % 8192 / 4096 = c.val / 2 then (1, ⟨(i 0).val % 4096 / 256 % 16, Nat.mod_lt _ (by decide)⟩)
  else (2, ⟨(i 0).val % 4096 / 256 % 16, Nat.mod_lt _ (by decide)⟩)

theorem set_row {n h : Nat} (k : Fin n)
    (inb : ∀ a, (![k.val, 0, 0] : Fin 3 → Nat) a + (![1, h, 1024] : Fin 3 → Nat) a ≤ (⟨3, ![n, h, 1024]⟩ : Shape).size a) :
    (Rect.unit (s := ⟨3, ![n, h, 1024]⟩) ![k.val, 0, 0] ![1, h, 1024] inb).set
      = Finset.univ.filter fun i : (⟨3, ![n, h, 1024]⟩ : Shape).Idx => pieceOf i = k := by
  ext i
  rw [Rect.mem_set_unit, Finset.mem_filter]
  constructor
  · intro hi
    have h0 := hi 0
    have h1 : k.val ≤ (i 0).val ∧ (i 0).val < k.val + 1 := h0
    exact ⟨Finset.mem_univ _, Fin.ext (by show (i 0).val = k.val; omega)⟩
  · rintro ⟨-, hi⟩
    have hk : (i 0).val = k.val := congrArg Fin.val hi
    have h1 : (i 1).val < h := (i 1).isLt
    have h2 : (i 2).val < 1024 := (i 2).isLt
    intro a
    fin_cases a
    · show k.val ≤ (i 0).val ∧ (i 0).val < k.val + 1; omega
    · show 0 ≤ (i 1).val ∧ (i 1).val < 0 + h; omega
    · show 0 ≤ (i 2).val ∧ (i 2).val < 0 + 1024; omega

theorem set_fy (j : Fin 4) : (fy j).view.set = Finset.univ.filter fun i : S4x256x1024.Idx => pieceOf i = j := by
  rw [Memref.set_view_squeeze]
  exact (View.set_slice_whole _ _).trans (set_row (n := 4) (h := 256) j (inbY4 j))
theorem set_fl (j : Fin 4) : (fl j).view.set = Finset.univ.filter fun i : S4x512x1024.Idx => pieceOf i = j := by
  rw [Memref.set_view_squeeze]
  exact (View.set_slice_whole _ _).trans (set_row (n := 4) (h := 512) j (inbL4 j))
theorem set_yb (k : Fin 16) : (yb k).view.set = Finset.univ.filter fun i : S16x256x1024.Idx => pieceOf i = k := by
  rw [Memref.set_view_squeeze]
  exact (View.set_slice_whole _ _).trans (set_row (n := 16) (h := 256) k (inbY k))
theorem set_rb (k : Fin 16) : (rb k).view.set = Finset.univ.filter fun i : S16x256x1024.Idx => pieceOf i = k := by
  rw [Memref.set_view_squeeze]
  exact (View.set_slice_whole _ _).trans (set_row (n := 16) (h := 256) k (inbY k))
theorem set_lb (k : Fin 16) : (lb k).view.set = Finset.univ.filter fun i : S16x512x1024.Idx => pieceOf i = k := by
  rw [Memref.set_view_squeeze]
  exact (View.set_slice_whole _ _).trans (set_row (n := 16) (h := 512) k (inbL k))

/-- A block of rows and columns of a matrix, by the two coordinates. -/
theorem mem_rows {p q : Nat} {off size : Fin 2 → Nat}
    {inb : ∀ a, off a + size a ≤ (⟨2, ![p, q]⟩ : Shape).size a} {i : (⟨2, ![p, q]⟩ : Shape).Idx} :
    i ∈ (Rect.unit (s := ⟨2, ![p, q]⟩) off size inb).set
      ↔ (off 0 ≤ (i 0).val ∧ (i 0).val < off 0 + size 0) ∧ (off 1 ≤ (i 1).val ∧ (i 1).val < off 1 + size 1) :=
  Rect.mem_set_unit.trans Fin.forall_fin_two

theorem piece_eq (f : Fin 3) (n : Nat) (h : n % 16 < 16) (f' : Fin 3) (k : Fin 16) :
    ((f, (⟨n % 16, h⟩ : Fin 16)) = (f', k)) ↔ f = f' ∧ n % 16 = k.val := by
  rw [Prod.mk.injEq, Fin.ext_iff (b := k)]

theorem set_xL (c : Dev nD) (k : Fin 16) :
    (xL c k).view.set = Finset.univ.filter fun i : S8192x2048.Idx => pieceX c i = (0, k) := by
  refine (View.set_slice_whole _ _).trans ?_
  ext i
  refine (mem_rows (p := 8192) (q := 2048)).trans ?_
  rw [Finset.mem_filter, and_iff_right (Finset.mem_univ _)]
  have h0 : (i 0).val < 8192 := (i 0).isLt
  have h1 : (i 1).val < 2048 := (i 1).isLt
  have hc := dev_lt c
  have hk := k.isLt
  have hoff : k0_off2 c 1 = 1024 * (c.val % 2) := by rw [k0_off2_eq]; rfl
  show (512 * k.val ≤ (i 0).val ∧ (i 0).val < 512 * k.val + 512)
    ∧ (k0_off2 c 1 ≤ (i 1).val ∧ (i 1).val < k0_off2 c 1 + 1024) ↔ _
  rw [hoff]; unfold pieceX
  split_ifs <;> rw [piece_eq] <;> simp only [Fin.reduceEq, true_and, false_and, iff_false] <;> omega

theorem set_xY (c : Dev nD) (k : Fin 16) :
    (xY c k).view.set = Finset.univ.filter fun i : S8192x2048.Idx => pieceX c i = (1, k) := by
  refine (View.set_slice_whole _ _).trans ?_
  ext i
  refine (mem_rows (p := 8192) (q := 2048)).trans ?_
  rw [Finset.mem_filter, and_iff_right (Finset.mem_univ _)]
  have h0 : (i 0).val < 8192 := (i 0).isLt
  have h1 : (i 1).val < 2048 := (i 1).isLt
  have hc := dev_lt c
  have hk := k.isLt
  rw [k0_off1_eq]
  show (4096 * (c.val / 2) + 256 * k.val ≤ (i 0).val ∧ (i 0).val < 4096 * (c.val / 2) + 256 * k.val + 256)
    ∧ (1024 - 1024 * (c.val % 2) ≤ (i 1).val ∧ (i 1).val < 1024 - 1024 * (c.val % 2) + 1024) ↔ _
  unfold pieceX
  split_ifs <;> rw [piece_eq] <;> simp only [Fin.reduceEq, true_and, false_and, iff_false] <;> omega

theorem set_oL (c : Dev nD) (k : Fin 16) :
    (oL c k).view.set = Finset.univ.filter fun i : S16384x1024.Idx => pieceO c i = (0, k) := by
  refine (View.set_slice_whole _ _).trans ?_
  ext i
  refine (mem_rows (p := 16384) (q := 1024)).trans ?_
  rw [Finset.mem_filter, and_iff_right (Finset.mem_univ _)]
  have h0 : (i 0).val < 16384 := (i 0).isLt
  have h1 : (i 1).val < 1024 := (i 1).isLt
  have hc := dev_lt c
  have hk := k.isLt
  rw [k0_off8_eq]
  show (8192 * (c.val % 2) + 512 * k.val ≤ (i 0).val ∧ (i 0).val < 8192 * (c.val % 2) + 512 * k.val + 512)
    ∧ (0 ≤ (i 1).val ∧ (i 1).val < 0 + 1024) ↔ _
  unfold pieceO
  split_ifs <;> rw [piece_eq] <;> simp only [Fin.reduceEq, true_and, false_and, iff_false] <;> omega

theorem set_oF (c : Dev nD) (k : Fin 16) :
    (oF c k).view.set = Finset.univ.filter fun i : S16384x1024.Idx => pieceO c i = (1, k) := by
  refine (View.set_slice_whole _ _).trans ?_
  ext i
  refine (mem_rows (p := 16384) (q := 1024)).trans ?_
  rw [Finset.mem_filter, and_iff_right (Finset.mem_univ _)]
  have h0 : (i 0).val < 16384 := (i 0).isLt
  have h1 : (i 1).val < 1024 := (i 1).isLt
  have hc := dev_lt c
  have hk := k.isLt
  rw [k0_off6_eq]
  show ((4096 * (c.val / 2) + 256 * k.val + 8192) - 8192 * (c.val % 2) ≤ (i 0).val
      ∧ (i 0).val < (4096 * (c.val / 2) + 256 * k.val + 8192) - 8192 * (c.val % 2) + 256)
    ∧ (0 ≤ (i 1).val ∧ (i 1).val < 0 + 1024) ↔ _
  unfold pieceO
  split_ifs <;> rw [piece_eq] <;> simp only [Fin.reduceEq, true_and, false_and, iff_false] <;> omega

theorem set_oX (c : Dev nD) (k : Fin 16) :
    (oX c k).view.set = Finset.univ.filter fun i : S16384x1024.Idx => pieceO c i = (2, k) := by
  refine (View.set_slice_whole _ _).trans ?_
  ext i
  refine (mem_rows (p := 16384) (q := 1024)).trans ?_
  rw [Finset.mem_filter, and_iff_right (Finset.mem_univ _)]
  have h0 : (i 0).val < 16384 := (i 0).isLt
  have h1 : (i 1).val < 1024 := (i 1).isLt
  have hc := dev_lt c
  have hk := k.isLt
  rw [k0_off20_eq]
  show ((256 * k.val + 12288) - (8192 * (c.val % 2) + 4096 * (c.val / 2)) ≤ (i 0).val
      ∧ (i 0).val < (256 * k.val + 12288) - (8192 * (c.val % 2) + 4096 * (c.val / 2)) + 256)
    ∧ (0 ≤ (i 1).val ∧ (i 1).val < 0 + 1024) ↔ _
  unfold pieceO
  split_ifs <;> rw [piece_eq] <;> simp only [Fin.reduceEq, true_and, false_and, iff_false] <;> omega

/-- The rows device `c` sends along the column are the rows the other device of the column receives. -/
theorem set_oF_xnb (c : Dev nD) (k : Fin 16) : (oF c k).view.set = (oX (xnb c) k).view.set := by
  refine (View.set_slice_whole _ _).trans (Eq.trans ?_ (View.set_slice_whole _ _).symm)
  ext i
  refine (mem_rows (p := 16384) (q := 1024)).trans (Iff.trans ?_ (mem_rows (p := 16384) (q := 1024)).symm)
  have hc := dev_lt c
  rw [k0_off6_eq, k0_off20_eq, xnb_div, xnb_mod]
  show ((4096 * (c.val / 2) + 256 * k.val + 8192) - 8192 * (c.val % 2) ≤ (i 0).val
      ∧ (i 0).val < (4096 * (c.val / 2) + 256 * k.val + 8192) - 8192 * (c.val % 2) + 256) ∧ _
    ↔ ((256 * k.val + 12288) - (8192 * (c.val % 2) + 4096 * (1 - c.val / 2)) ≤ (i 0).val
      ∧ (i 0).val < (256 * k.val + 12288) - (8192 * (c.val % 2) + 4096 * (1 - c.val / 2)) + 256) ∧ _
  refine and_congr ?_ Iff.rfl
  omega

/-! ## The contents -/

/-- The element of the argument at row `r` and column `q`. -/
def atX (r q : Nat) : S8192x2048.Idx :=
  fun a => match a with | ⟨0, _⟩ => ⟨r % 8192, Nat.mod_lt _ (by decide)⟩ | ⟨1, _⟩ => ⟨q % 2048, Nat.mod_lt _ (by decide)⟩

theorem eq_atX (i : S8192x2048.Idx) {r q : Nat} (h0 : (i 0).val = r) (h1 : (i 1).val = q) : i = atX r q := by
  have b0 : (i 0).val < 8192 := (i 0).isLt
  have b1 : (i 1).val < 2048 := (i 1).isLt
  funext a; apply Fin.ext
  fin_cases a
  · show (i 0).val = r % 8192; omega
  · show (i 1).val = q % 2048; omega

/-- One element rounded. -/
abbrev round (v : F .f32) : F .bf16 := FloatOps.truncf .bf16 bitsLt_bf16_f32 v

variable (X : Dev nD → S8192x2048.Idx → F .f32)

/-- A ring slot of device `c` holding chunk `k` to send, or chunk `k` to keep. -/
def FY (c : Dev nD) (k : Fin 16) (i : S4x256x1024.Idx) : F .f32 :=
  X c (atX (4096 * (c.val / 2) + 256 * k.val + (i 1).val) (1024 - 1024 * (c.val % 2) + (i 2).val))
def FL (c : Dev nD) (k : Fin 16) (i : S4x512x1024.Idx) : F .f32 :=
  X c (atX (512 * k.val + (i 1).val) (1024 * (c.val % 2) + (i 2).val))
/-- The chunks device `c` sends, rounded; those it receives; those it keeps, rounded. -/
def YB (c : Dev nD) (i : S16x256x1024.Idx) : F .bf16 :=
  round (X c (atX (4096 * (c.val / 2) + 256 * (i 0).val + (i 1).val) (1024 - 1024 * (c.val % 2) + (i 2).val)))
def RB (c : Dev nD) (i : S16x256x1024.Idx) : F .bf16 := YB X (ynb c) i
def LB (c : Dev nD) (i : S16x512x1024.Idx) : F .bf16 :=
  round (X c (atX (512 * (i 0).val + (i 1).val) (1024 * (c.val % 2) + (i 2).val)))
/-- The device whose argument row `r` of device `c`'s result comes from. -/
def srcOf (c : Dev nD) (r : Nat) : Dev nD :=
  if r / 8192 = c.val % 2 then c else if r % 8192 / 4096 = c.val / 2 then ynb c else ynb (xnb c)
/-- The result of device `c`. -/
def OUT (c : Dev nD) (i : S16384x1024.Idx) : F .bf16 :=
  round (X (srcOf c (i 0).val) (atX ((i 0).val % 8192) (1024 * (c.val % 2) + (i 1).val)))

/-! ### A chunk of one buffer read is a chunk of another -/

theorem atX_congr {r q r' q' : Nat} (h0 : r = r') (h1 : q = q') : atX r q = atX r' q' := by rw [h0, h1]

theorem read_fy (c : Dev nD) (k : Fin 16) (j : Fin 4) :
    (fy j).view.read (Elt F) (FY X c k) = (xY c k).view.read (Elt F) (X c) := by
  funext x
  show FY X c k ((fy j).view.emb x) = X c ((xY c k).view.emb x)
  rw [emb_fy, eq_atX _ (emb_xY c k x).1 (emb_xY c k x).2]; rfl
theorem read_fl (c : Dev nD) (k : Fin 16) (j : Fin 4) :
    (fl j).view.read (Elt F) (FL X c k) = (xL c k).view.read (Elt F) (X c) := by
  funext x
  show FL X c k ((fl j).view.emb x) = X c ((xL c k).view.emb x)
  rw [emb_fl, eq_atX _ (emb_xL c k x).1 (emb_xL c k x).2]; rfl

theorem read_rb (c : Dev nD) (k : Fin 16) :
    (rb k).view.read (Elt F) (RB X (ynb c)) = (yb k).view.read (Elt F) (YB X c) := by
  funext x
  show YB X (ynb (ynb c)) ((rb k).view.emb x) = YB X c ((yb k).view.emb x)
  rw [ynb_ynb]; rfl

theorem read_oL (c : Dev nD) (k : Fin 16) :
    (oL c k).view.read (Elt F) (OUT X c) = (lb k).view.read (Elt F) (LB X c) := by
  funext x
  show OUT X c ((oL c k).view.emb x) = LB X c ((lb k).view.emb x)
  have hx : (x 0).val < 512 := (x 0).isLt
  have hk := k.isLt
  obtain ⟨h0, h1⟩ := emb_oL c k x
  rw [emb_lb]; unfold OUT LB srcOf
  rw [h0, h1, if_pos (by omega)]
  exact congrArg (fun i => round (X c i)) (atX_congr (by show _ = 512 * k.val + (x 0).val; omega) rfl)

theorem read_oF (c : Dev nD) (k : Fin 16) :
    (oF c k).view.read (Elt F) (OUT X c) = (rb k).view.read (Elt F) (RB X c) := by
  funext x
  show OUT X c ((oF c k).view.emb x) = YB X (ynb c) ((rb k).view.emb x)
  have hx : (x 0).val < 256 := (x 0).isLt
  have hk := k.isLt
  have ha := dev_half c
  have hb : c.val % 2 < 2 := Nat.mod_lt _ (by decide)
  obtain ⟨h0, h1⟩ := emb_oF c k x
  rw [emb_rb]; unfold OUT YB srcOf
  rw [h0, h1, ynb_div, ynb_mod]
  show round (X _ (atX _ _)) = round (X _ (atX (4096 * (c.val / 2) + 256 * k.val + (x 0).val)
    (1024 - 1024 * (1 - c.val % 2) + (x 1).val)))
  generalize c.val / 2 = a at *
  generalize c.val % 2 = b at *
  rw [if_neg (by omega), if_pos (by omega)]
  exact congrArg (fun i => round (X (ynb c) i)) (atX_congr (by omega) (by omega))

theorem read_oF_xnb (c : Dev nD) (k : Fin 16) :
    (oF c k).view.read (Elt F) (OUT X (xnb c)) = (rb k).view.read (Elt F) (RB X c) := by
  funext x
  show OUT X (xnb c) ((oF c k).view.emb x) = YB X (ynb c) ((rb k).view.emb x)
  have hx : (x 0).val < 256 := (x 0).isLt
  have hk := k.isLt
  have ha := dev_half c
  have hb : c.val % 2 < 2 := Nat.mod_lt _ (by decide)
  obtain ⟨h0, h1⟩ := emb_oF c k x
  rw [emb_rb]; unfold OUT YB srcOf
  rw [h0, h1, ynb_div, ynb_mod, xnb_div, xnb_mod, xnb_xnb]
  show round (X _ (atX _ _)) = round (X _ (atX (4096 * (c.val / 2) + 256 * k.val + (x 0).val)
    (1024 - 1024 * (1 - c.val % 2) + (x 1).val)))
  generalize c.val / 2 = a at *
  generalize c.val % 2 = b at *
  rw [if_neg (by omega), if_neg (by omega)]
  exact congrArg (fun i => round (X (ynb c) i)) (atX_congr (by omega) (by omega))

/-! ### Rounding a chunk -/

theorem pay_y (v : Vec F S1x256x1024 .f32) : k0_pay1 v = fun j => round (v j) := by
  funext j
  show round (v (Shape.reshapeEquiv _ (Shape.reshapeEquiv _ j))) = _
  rw [Shape.reshapeEquiv_reshapeEquiv, Shape.reshapeEquiv_self]
theorem pay_l (v : Vec F S1x512x1024 .f32) : k0_pay19 v = fun j => round (v j) := by
  funext j
  show round (v (Shape.reshapeEquiv _ (Shape.reshapeEquiv _ j))) = _
  rw [Shape.reshapeEquiv_reshapeEquiv, Shape.reshapeEquiv_self]

/-- The block of a ring or of a stack that a load or a store addresses. -/
abbrev rY4 (j : Fin 4) : Rect S4x256x1024 := Rect.unit (s := S4x256x1024) ![j.val, 0, 0] S1x256x1024.size (inbY4 j)
abbrev rL4 (j : Fin 4) : Rect S4x512x1024 := Rect.unit (s := S4x512x1024) ![j.val, 0, 0] S1x512x1024.size (inbL4 j)
abbrev rY (k : Fin 16) : Rect S16x256x1024 := Rect.unit (s := S16x256x1024) ![k.val, 0, 0] S1x256x1024.size (inbY k)
abbrev rL (k : Fin 16) : Rect S16x512x1024 := Rect.unit (s := S16x512x1024) ![k.val, 0, 0] S1x512x1024.size (inbL k)

theorem access_fy (j : Fin 4) : fyW.view.setOn (rY4 j).set = (fy j).view.set :=
  (View.set_slice _ _).symm.trans (Memref.set_view_squeeze _ _).symm
theorem access_fl (j : Fin 4) : flW.view.setOn (rL4 j).set = (fl j).view.set :=
  (View.set_slice _ _).symm.trans (Memref.set_view_squeeze _ _).symm
theorem access_yb (k : Fin 16) : ybW.view.setOn (rY k).set = (yb k).view.set :=
  (View.set_slice _ _).symm.trans (Memref.set_view_squeeze _ _).symm
theorem access_lb (k : Fin 16) : lbW.view.setOn (rL k).set = (lb k).view.set :=
  (View.set_slice _ _).symm.trans (Memref.set_view_squeeze _ _).symm

theorem read_yb_access (c : Dev nD) (k : Fin 16) (j : Fin 4) :
    (ybW.access (rY k) : View sig .tc _ _ _).read (Elt F) (YB X c)
      = k0_pay1 (fyW.view.readAt (Elt F) (rY4 j).toLoadRect (FY X c k)) := by
  rw [pay_y]
  funext x
  have h0 : (x 0).val < 1 := (x 0).isLt
  show YB X c ((rY k).emb x) = round (FY X c k ((rY4 j).emb x))
  unfold YB FY
  refine congrArg (fun i => round (X c i)) (atX_congr ?_ rfl)
  show 4096 * (c.val / 2) + 256 * (k.val + 1 * (x 0).val) + (0 + 1 * (x 1).val)
    = 4096 * (c.val / 2) + 256 * k.val + (0 + 1 * (x 1).val)
  omega
theorem read_lb_access (c : Dev nD) (k : Fin 16) (j : Fin 4) :
    (lbW.access (rL k) : View sig .tc _ _ _).read (Elt F) (LB X c)
      = k0_pay19 (flW.view.readAt (Elt F) (rL4 j).toLoadRect (FL X c k)) := by
  rw [pay_l]
  funext x
  have h0 : (x 0).val < 1 := (x 0).isLt
  show LB X c ((rL k).emb x) = round (FL X c k ((rL4 j).emb x))
  unfold LB FL
  refine congrArg (fun i => round (X c i)) (atX_congr ?_ rfl)
  show 512 * (k.val + 1 * (x 0).val) + (0 + 1 * (x 1).val) = 512 * k.val + (0 + 1 * (x 1).val)
  omega

/-! ### What a write leaves -/

/-- A view written over with what a function reads there holds that function. -/
theorem write_eq_on {κ : Kind} {sp : Space} {s : Shape} {e : EltTy} (v : View sig κ sp s e)
    (f g : v.ty.Contents (Elt F)) (w : s.Idx → Elt F e) (h : v.read (Elt F) g = w) :
    ∀ i ∈ v.set, v.write (Elt F) f w Finset.univ i = g i := by
  intro i hi
  obtain ⟨x, -, rfl⟩ := Finset.mem_map.mp hi
  have := congrFun (h.trans (v.read_write_univ f w).symm) x
  rw [View.read_apply, View.read_apply] at this
  exact ((cast_inj _).mp this).symm

end Cert.AllToAll
-- ==== Proof.Sched.lean ====
/-
# Who signals whom, and what is handed over

The semaphores of one device, in the order the kernel meets them.

* The barrier semaphore. The device waits once for two units. The other device of the row signals one, and hands over
  its sixteen receive chunks; the other device of the column signals one, and hands over the sixteen chunks of its
  result that this device is to fill.
* Sixteen row-send and sixteen row-receive semaphores, one pair per chunk. The copy of chunk `k` along the row pays the
  sender's send semaphore, which gives the rounded chunk back, and the receiver's receive semaphore, which gives the
  receive chunk holding the sender's rounded chunk.
* Sixteen column-send and sixteen column-receive semaphores, one pair per chunk. The copy of chunk `k` along the column
  pays the sender's send semaphore, which gives back the half of the receive chunk it was lent, and the receiver's
  receive semaphore, which gives a chunk of the receiver's result holding the final values.
* The semaphores of the local copies: one copy in flight at a time, waited for by the device that starts it.

A device waits at a local or a send semaphore whenever it likes, at the barrier owing chunks along the row and the
column, at a row-receive semaphore owing chunks along the column only, and at a column-receive semaphore owing nothing.
-/
module

public import proofs.«01_k».proof.Proof.Views
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The copy of the rounds' algebra: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev EC : UEmb Counters (MT nD τ sig Unit (Elt F) ℕ UU ℕ) := countersEmb

/-! ## The semaphores shared between devices -/

/-- The four families of semaphores that copies between devices pay: row-send, row-receive, column-send,
    column-receive. -/
def fam (f : Fin 4) (k : Fin 16) : DmaSem sig := match f with
  | ⟨0, _⟩ => sYS k | ⟨1, _⟩ => sYR k | ⟨2, _⟩ => sXS k | ⟨3, _⟩ => sXR k

theorem fam_val (f : Fin 4) (k : Fin 16) : (fam f k).val = 4 + 16 * f.val + k.val := by
  revert f k; decide +kernel

/-- Which shared semaphore this is, if it is one: the barrier semaphore, or one of the four families. -/
def kindOf : SemLoc sig → Option (Option (Fin 4 × Fin 16))
  | .reg s => if s = sBar then some none else none
  | .dma s => if h : 4 ≤ s.val ∧ s.val < 68 then
      some (some (⟨(s.val - 4) / 16, by omega⟩, ⟨(s.val - 4) % 16, by omega⟩)) else none

abbrev barCell (c : Dev nD) : GSem nD τ sig := ((c : Thread nD τ), .reg sBar)
abbrev cell (c : Dev nD) (f : Fin 4) (k : Fin 16) : GSem nD τ sig := ((c : Thread nD τ), .dma (fam f k))

theorem kind_bar : kindOf (.reg sBar) = some none := by
  show (if sBar = sBar then some none else none) = _
  exact if_pos rfl
theorem kind_dma (s : DmaSem sig) (h : 4 ≤ s.val ∧ s.val < 68) :
    kindOf (.dma s) = some (some (⟨(s.val - 4) / 16, by omega⟩, ⟨(s.val - 4) % 16, by omega⟩)) := dif_pos h
theorem kind_low {s : DmaSem sig} (h : s.val < 4 ∨ 68 ≤ s.val) : kindOf (.dma s) = none := dif_neg (by omega)
theorem kind_fam (f : Fin 4) (k : Fin 16) : kindOf (.dma (fam f k)) = some (some (f, k)) := by
  have h := fam_val f k
  have hf := f.isLt
  have hk := k.isLt
  rw [kind_dma _ (by omega)]
  congr 2
  exact Prod.ext (Fin.ext (by show ((fam f k).val - 4) / 16 = f.val; omega))
    (Fin.ext (by show ((fam f k).val - 4) % 16 = k.val; omega))

theorem fam_inj {f f' : Fin 4} {k k' : Fin 16} (h : (SemLoc.dma (fam f k) : SemLoc sig) = .dma (fam f' k')) :
    f = f' ∧ k = k' := by
  have := congrArg kindOf h
  rw [kind_fam, kind_fam] at this
  exact Prod.mk.inj (Option.some.inj (Option.some.inj this))
theorem fam_ne_bar (f : Fin 4) (k : Fin 16) : (SemLoc.dma (fam f k) : SemLoc sig) ≠ .reg sBar := fun h => by cases h

/-! ## The chunks as assertions -/

/-- Chunk `M` of device `c` held at share `q` with the contents `f`. -/
abbrev pts {sp : Space} {s : Shape} {e : EltTy} (c : Dev nD) (M : Memref sig .tc sp s e) (q : PosShare TreeShare)
    (f : Buf (Elt F) (M.view.loc (c : Thread nD τ))) : sProp 𝕄 :=
  M.view.loc (c : Thread nD τ) ↦[M.view.set]{q} f
/-- Chunk `M` of device `c` held whole at some contents. -/
abbrev anyPts {sp : Space} {s : Shape} {e : EltTy} (c : Dev nD) (M : Memref sig .tc sp s e) : sProp 𝕄 :=
  iprop(∃ f : Buf (Elt F) (M.view.loc (c : Thread nD τ)), pts c M fullShare f)

/-- The two halves a receive chunk is lent in. -/
abbrev qL : PosShare TreeShare := fullShare.left
abbrev qR : PosShare TreeShare := fullShare.right

variable (X : Dev nD → S8192x2048.Idx → F .f32)

def ysPay (c : Dev nD) (k : Fin 16) : sProp 𝕄 := pts c (yb k) fullShare (YB X c)
def yrPay (c : Dev nD) (k : Fin 16) : sProp 𝕄 := pts c (rb k) fullShare (RB X c)
def xsPay (c : Dev nD) (k : Fin 16) : sProp 𝕄 := pts c (rb k) qL (RB X c)
def xrPay (c : Dev nD) (k : Fin 16) : sProp 𝕄 := pts c (oX c k) fullShare (OUT X c)
/-- What a copy between devices hands over on completion, by the family of the semaphore it pays. -/
def famPay (f : Fin 4) (c : Dev nD) (k : Fin 16) : sProp 𝕄 := match f with
  | ⟨0, _⟩ => ysPay X c k | ⟨1, _⟩ => yrPay X c k | ⟨2, _⟩ => xsPay X c k | ⟨3, _⟩ => xrPay X c k
/-- What the other device of the row hands device `c` at the barrier, and what the other device of the column does. -/
def barPayY (c : Dev nD) : sProp 𝕄 := bigSep Finset.univ fun k : Fin 16 => anyPts (F := F) (ynb c) (rb k)
def barPayX (c : Dev nD) : sProp 𝕄 := bigSep Finset.univ fun k : Fin 16 => anyPts (F := F) (xnb c) (oF c k)

omit [FloatOps F] in
instance barPayY_storable (c : Dev nD) : BI.Storable (upEmb : UEmb _ 𝕄) (barPayY (F := F) c) := by
  unfold barPayY; infer_instance
omit [FloatOps F] in
instance barPayX_storable (c : Dev nD) : BI.Storable (upEmb : UEmb _ 𝕄) (barPayX (F := F) c) := by
  unfold barPayX; infer_instance
instance famPay_storable (f : Fin 4) (c : Dev nD) (k : Fin 16) :
    BI.Storable (upEmb : UEmb _ 𝕄) (famPay X f c k) := by
  fin_cases f
  · show BI.Storable upEmb (ysPay X c k); unfold ysPay; infer_instance
  · show BI.Storable upEmb (yrPay X c k); unfold yrPay; infer_instance
  · show BI.Storable upEmb (xsPay X c k); unfold xsPay; infer_instance
  · show BI.Storable upEmb (xrPay X c k); unfold xrPay; infer_instance

/-! ## The schedule -/

/-- The units one chunk between devices pays. -/
abbrev N : ℕ := (rb 0).view.dmaCredit
theorem N_pos : 0 < N := View.dmaCredit_pos _ (by decide)

/-- One round. The barrier semaphore has two duties of one unit: the other device of the row (`false`) and the other
    device of the column (`true`). A semaphore of a family has one duty, the copy of its chunk. -/
def rd : Rounds.Schedule (GSem nD τ sig) Bool 𝕄 where
  duties g r := if r = 0 ∧ g.1.2 = .tc then (match kindOf g.2 with
    | none => ∅ | some none => Finset.univ | some (some _) => {false}) else ∅
  unitless _ := False
  amount g _ _ := if kindOf g.2 = some none then 1 else N
  payload g _ d := match kindOf g.2 with
    | none => iprop(emp)
    | some none => if d then barPayX g.1.1 else barPayY g.1.1
    | some (some fk) => famPay X fk.1 g.1.1 fk.2
  amount_pos g _ _ _ := by
    by_cases h : kindOf g.2 = some none
    · rw [if_pos h]; exact Nat.one_pos
    · rw [if_neg h]; exact N_pos

instance rd_payload_storable (g : GSem nD τ sig) (r : ℕ) (d : Bool) :
    BI.Storable (upEmb : UEmb _ 𝕄) ((rd X).payload g r d) := by
  show BI.Storable upEmb (match kindOf g.2 with
    | none => iprop(emp)
    | some none => if d then barPayX (F := F) g.1.1 else barPayY g.1.1
    | some (some fk) => famPay X fk.1 g.1.1 fk.2)
  rcases kindOf g.2 with _ | _ | fk
  · show BI.Storable upEmb iprop(emp); infer_instance
  · show BI.Storable upEmb (if d then barPayX (F := F) g.1.1 else barPayY g.1.1)
    split <;> infer_instance
  · show BI.Storable upEmb (famPay X fk.1 g.1.1 fk.2); infer_instance

section Facts
variable (c : Dev nD) (f : Fin 4) (k : Fin 16)

theorem duties_bar : (rd X).duties (barCell c) 0 = Finset.univ := by
  dsimp only [rd]; rw [if_pos ⟨rfl, rfl⟩, kind_bar]
theorem duties_fam : (rd X).duties (cell c f k) 0 = {false} := by
  dsimp only [rd]; rw [if_pos ⟨rfl, rfl⟩, kind_fam]
theorem duties_later (g : GSem nD τ sig) : ∀ r, 1 ≤ r → (rd X).duties g r = ∅ :=
  fun r hr => by dsimp only [rd]; rw [if_neg fun h => by omega]
theorem amount_bar (d : Bool) : (rd X).amount (barCell c) 0 d = 1 := by
  dsimp only [rd]; exact if_pos kind_bar
theorem amount_fam (d : Bool) : (rd X).amount (cell c f k) 0 d = N := by
  dsimp only [rd]; rw [kind_fam]; exact if_neg (fun h => by cases h)
theorem expect_bar : (rd X).expect (barCell c) 0 = 2 := by
  unfold Schedule.expect Schedule.amountOf
  rw [duties_bar, Finset.sum_congr rfl fun d _ => amount_bar X c d]; rfl
theorem expect_fam : (rd X).expect (cell c f k) 0 = N := by
  unfold Schedule.expect Schedule.amountOf; rw [duties_fam, Finset.sum_singleton, amount_fam]
theorem payload_bar (d : Bool) : (rd X).payload (barCell c) 0 d = if d then barPayX (F := F) c else barPayY c := by
  dsimp only [rd]; rw [kind_bar]
theorem payload_fam (d : Bool) : (rd X).payload (cell c f k) 0 d = famPay X f c k := by
  dsimp only [rd]; rw [kind_fam]

/-- What the wait at the barrier brings, and what the wait at a semaphore of a family does. -/
theorem rest_bar : bigSep ((rd X).duties (barCell c) 0 \ ∅) (fun d => (rd X).payload (barCell c) 0 d)
    = iprop(barPayY (F := F) c ∗ barPayX c) := by
  rw [Finset.sdiff_empty, duties_bar, bigSep_univ_eq_bigSepL [false, true] (by decide) (by decide), bigSepL_cons_cons,
    bigSepL_singleton, payload_bar, payload_bar]
  rfl
theorem rest_fam : bigSep ((rd X).duties (cell c f k) 0 \ ∅) (fun d => (rd X).payload (cell c f k) 0 d)
    = famPay X f c k := by
  rw [Finset.sdiff_empty, duties_fam, bigSep_singleton, payload_fam]
end Facts

/-! ## What a device owes -/

/-- The copies along the row from chunk `n` on, and the copies along the column from chunk `n` on. -/
def oweY (c : Dev nD) (n : ℕ) : CellTallies nD τ sig Unit :=
  ∑ k ∈ Finset.univ.filter fun k : Fin 16 => n ≤ k.val, tallyAt (cell (ynb c) 1 k) () N
def oweX (c : Dev nD) (n : ℕ) : CellTallies nD τ sig Unit :=
  ∑ k ∈ Finset.univ.filter fun k : Fin 16 => n ≤ k.val, tallyAt (cell (xnb c) 3 k) () N

theorem from_step (k : Fin 16) : (Finset.univ.filter fun j : Fin 16 => k.val ≤ j.val)
    = insert k (Finset.univ.filter fun j : Fin 16 => k.val + 1 ≤ j.val) := by
  ext j
  simp only [Finset.mem_filter, Finset.mem_univ, true_and, Finset.mem_insert, Fin.ext_iff]
  omega
theorem from_last : (Finset.univ.filter fun j : Fin 16 => 16 ≤ j.val) = ∅ := by decide
theorem from_first : (Finset.univ.filter fun j : Fin 16 => 0 ≤ j.val) = Finset.univ := by decide

theorem oweY_step (c : Dev nD) (k : Fin 16) : oweY c k.val = oweY c (k.val + 1) + tallyAt (cell (ynb c) 1 k) () N := by
  unfold oweY; rw [from_step, Finset.sum_insert (by simp), add_comm]
theorem oweX_step (c : Dev nD) (k : Fin 16) : oweX c k.val = oweX c (k.val + 1) + tallyAt (cell (xnb c) 3 k) () N := by
  unfold oweX; rw [from_step, Finset.sum_insert (by simp), add_comm]
theorem oweY_last (c : Dev nD) : oweY c 16 = 0 := by unfold oweY; rw [from_last, Finset.sum_empty]
theorem oweX_last (c : Dev nD) : oweX c 16 = 0 := by unfold oweX; rw [from_last, Finset.sum_empty]

/-- At launch: every copy along the row and along the column, and one unit at each neighbour's barrier. -/
def O₀ (c : Dev nD) : CellTallies nD τ sig Unit :=
  ((oweX c 0 + oweY c 0) + tallyAt (barCell (xnb c)) () 1) + tallyAt (barCell (ynb c)) () 1

def L (g : GSem nD τ sig) : Finset Unit := if g.1.2 = .tc then {()} else ∅
/-- The barrier semaphores at 1, the row-receive semaphores at 2, the column-receive semaphores at 3, the others at
    0. -/
def lv (g : GSem nD τ sig) (_ : Unit) : ℕ := match kindOf g.2 with
  | none => 0 | some none => 1 | some (some fk) => if fk.1 = 1 then 2 else if fk.1 = 3 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [kind_bar]
theorem lv_fam (c : Dev nD) (f : Fin 4) (k : Fin 16) :
    lv (cell c f k) () = if f = 1 then 2 else if f = 3 then 3 else 0 := by unfold lv; rw [kind_fam]

theorem pos_add {A B : CellTallies nD τ sig Unit} {g : GSem nD τ sig} {u : Unit} (h : 0 < (A + B) g u) :
    0 < A g u ∨ 0 < B g u := by
  rw [Pi.add_apply, Finsupp.add_apply] at h; omega
theorem pos_at {g g' : GSem nD τ sig} {n : ℕ} {u : Unit} (h : 0 < (tallyAt g' () n : CellTallies nD τ sig Unit) g u) :
    g = g' := by
  rw [tallyAt_apply] at h
  by_contra hn
  rw [if_neg (fun h' => hn h'.1)] at h
  exact Nat.lt_irrefl 0 h
theorem pos_sum {S : Finset (Fin 16)} {A : Fin 16 → CellTallies nD τ sig Unit} {g : GSem nD τ sig} {u : Unit}
    (h : 0 < (∑ k ∈ S, A k) g u) : ∃ k, 0 < A k g u := by
  rw [Finset.sum_apply, Finsupp.finset_sum_apply] at h
  obtain ⟨k, -, hk⟩ := Finset.exists_ne_zero_of_sum_ne_zero h.ne'
  exact ⟨k, Nat.pos_of_ne_zero hk⟩
theorem oweY_pos {c : Dev nD} {n : ℕ} {g : GSem nD τ sig} {u : Unit} (h : 0 < oweY c n g u) :
    ∃ k, g = cell (ynb c) 1 k := by obtain ⟨k, hk⟩ := pos_sum h; exact ⟨k, pos_at hk⟩
theorem oweX_pos {c : Dev nD} {n : ℕ} {g : GSem nD τ sig} {u : Unit} (h : 0 < oweX c n g u) :
    ∃ k, g = cell (xnb c) 3 k := by obtain ⟨k, hk⟩ := pos_sum h; exact ⟨k, pos_at hk⟩

/-- All that is owed lies above level `b`. -/
def Above (b : ℕ) (O : CellTallies nD τ sig Unit) : Prop := ∀ g u, 0 < O g u → g.1.2 = .tc ∧ b < lv g u

theorem Above.add {b : ℕ} {A B : CellTallies nD τ sig Unit} (hA : Above b A) (hB : Above b B) : Above b (A + B) :=
  fun g u h => (pos_add h).elim (hA g u) (hB g u)
theorem above_zero (b : ℕ) : Above b 0 := fun _ _ h => absurd h (Nat.lt_irrefl 0)
theorem above_oweX (c : Dev nD) (n : ℕ) : Above 2 (oweX c n) := fun g u h => by
  obtain ⟨k, rfl⟩ := oweX_pos h
  exact ⟨rfl, by rw [lv_fam]; decide⟩
theorem above_oweY (c : Dev nD) (n : ℕ) : Above 1 (oweY c n) := fun g u h => by
  obtain ⟨k, rfl⟩ := oweY_pos h
  exact ⟨rfl, by rw [lv_fam]; decide⟩
theorem above_bar (c : Dev nD) (n : ℕ) : Above 0 (tallyAt (barCell c) () n) := fun g u h => by
  obtain rfl := pos_at h
  exact ⟨rfl, by rw [lv_bar]; decide⟩
theorem Above.mono {b b' : ℕ} {O : CellTallies nD τ sig Unit} (hb : b ≤ b') (h : Above b' O) : Above b O :=
  fun g u hg => ⟨(h g u hg).1, lt_of_le_of_lt hb (h g u hg).2⟩
theorem above_row (c : Dev nD) (n : ℕ) : Above 1 (oweX c 0 + oweY c n) :=
  ((above_oweX c 0).mono (by decide)).add (above_oweY c n)
theorem above_launch (c : Dev nD) : Above 0 (O₀ c) :=
  (((above_row c 0).mono (by decide)).add (above_bar _ 1)).add (above_bar _ 1)

omit [FloatOps F] in
/-- A wait at a semaphore no higher than everything owed. -/
theorem mayWait (c : Dev nD) (sm : SemLoc sig) {b : ℕ} (hb : lv ((c : Thread nD τ), sm) () ≤ b)
    {O : CellTallies nD τ sig Unit} (hO : Above b O) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by cases u; unfold L; rw [if_pos (hO g () hg).1]; exact Finset.mem_singleton_self _)
    (fun p hp => by rw [Finset.mem_singleton.mp hp]; exact hb)
    (fun g u hg => (hO g u hg).2)

theorem lv_low (c : Dev nD) {s : DmaSem sig} (h : s.val < 4 ∨ 68 ≤ s.val) : lv ((c : Thread nD τ), .dma s) () = 0 := by
  unfold lv; rw [kind_low h]

end Cert.AllToAll
-- ==== Proof.Rules.lean ====
/-
# The rules one step of the kernel uses

Each rule takes what a device holds before a memory operation to what it holds after it, in front of any
continuation: local copies and their waits, sends and waits at the shared semaphores, the two signals, and a list of
steps run one after the other.
-/
module

public import proofs.«01_k».proof.Proof.Sched

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p` and ends in `Q`. -/
abbrev runs (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-! ## What every device may use: the shared semaphores' invariants, that none has passed its first round, the levels -/

/-- The shared semaphores of one device. -/
abbrev CI : Type := Option (Fin 4 × Fin 16)
def csem : CI → SemLoc sig
  | none => .reg sBar
  | some fk => .dma (fam fk.1 fk.2)
abbrev kcell (ck : Dev nD × CI) : GSem nD τ sig := ((ck.1 : Thread nD τ), csem ck.2)

variable (X : Dev nD → S8192x2048.Idx → F .f32)

def records (K : Dev nD × CI → ℕ) : sProp 𝕄 :=
  iprop((bigSep Finset.univ fun ck : Dev nD × CI => cellInv ER (rd X) (K ck) (kcell ck))
    ∗ (bigSep Finset.univ fun ck : Dev nD × CI => reached ER (kcell ck) 0) ∗ levAts L lv)

instance records_persistent (K : Dev nD × CI → ℕ) : BI.Persistent (records X K) := by unfold records; infer_instance

theorem records_inv (K : Dev nD × CI → ℕ) (ck : Dev nD × CI) :
    records X K ⊢ cellInv ER (rd X) (K ck) (kcell ck) := by
  have h : (bigSep Finset.univ fun ck : Dev nD × CI => (cellInv ER (rd X) (K ck) (kcell ck) : sProp 𝕄))
      ⊢ cellInv ER (rd X) (K ck) (kcell ck) := bigSep_elim (Finset.mem_univ ck)
  unfold records
  iintro ⟨H, -, -⟩
  iapply h; iexact H
theorem records_reached (K : Dev nD × CI → ℕ) (ck : Dev nD × CI) : records X K ⊢ reached ER (kcell ck) 0 := by
  have h : (bigSep Finset.univ fun ck : Dev nD × CI => (reached ER (kcell ck) 0 : sProp 𝕄)) ⊢ reached ER (kcell ck) 0 :=
    bigSep_elim (Finset.mem_univ ck)
  unfold records
  iintro ⟨-, H, -⟩
  iapply h; iexact H
theorem records_lev (K : Dev nD × CI → ℕ) : records X K ⊢ levAts L lv := by
  unfold records
  iintro ⟨-, -, H⟩; iexact H

/-- The part of a device's state every step uses: the records, and that the device owes `O`. -/
def St (K : Dev nD × CI → ℕ) (c : Dev nD) (O : CellTallies nD τ sig Unit) : sProp 𝕄 :=
  iprop(records X K ∗ ∃ W, owes (c : Thread nD τ) O W)

/-! ## Lists of assertions, lists of steps -/

/-- `Φ a` for every `a` along a list. -/
def along {α : Type} (Φ : α → sProp 𝕄) : List α → sProp 𝕄
  | [] => iprop(emp)
  | a :: l => iprop(Φ a ∗ along Φ l)

theorem along_eq_bigSep {α : Type} [DecidableEq α] (Φ : α → sProp 𝕄) (l : List α) (h : l.Nodup) :
    along Φ l = bigSep l.toFinset Φ := by
  induction l with
  | nil => rw [List.toFinset_nil, bigSep_empty]; rfl
  | cons a l ih =>
    obtain ⟨ha, hl⟩ := List.nodup_cons.mp h
    rw [List.toFinset_cons, bigSep_insert (by rwa [List.mem_toFinset]), ← ih hl]; rfl

theorem along_chunks (Φ : Fin 16 → sProp 𝕄) : along Φ chunks = bigSep Finset.univ Φ := by
  rw [along_eq_bigSep _ _ (by decide)]; exact congrArg (fun S => bigSep S Φ) (by decide)

theorem along_sep {α : Type} (Φ Ψ : α → sProp 𝕄) (l : List α) :
    along (fun a => iprop(Φ a ∗ Ψ a)) l ⊣⊢ iprop(along Φ l ∗ along Ψ l) := by
  induction l with
  | nil => exact ⟨by unfold along; iintro -; isplitl [] <;> iempintro, by unfold along; iintro -; iempintro⟩
  | cons a l ih =>
    constructor
    · show iprop((Φ a ∗ Ψ a) ∗ along (fun a => iprop(Φ a ∗ Ψ a)) l) ⊢ iprop((Φ a ∗ along Φ l) ∗ (Ψ a ∗ along Ψ l))
      iintro ⟨⟨H1, H2⟩, H⟩
      ihave H := ih.1 $$ H
      icases H with ⟨H3, H4⟩
      isplitl [H1 H3]
      · isplitl [H1] <;> iassumption
      · isplitl [H2] <;> iassumption
    · show iprop((Φ a ∗ along Φ l) ∗ (Ψ a ∗ along Ψ l)) ⊢ iprop((Φ a ∗ Ψ a) ∗ along (fun a => iprop(Φ a ∗ Ψ a)) l)
      iintro ⟨⟨H1, H3⟩, ⟨H2, H4⟩⟩
      isplitl [H1 H2]
      · isplitl [H1] <;> iassumption
      · iapply ih.2
        isplitl [H3] <;> iassumption

theorem along_mono {α : Type} {Φ Ψ : α → sProp 𝕄} (h : ∀ a, Φ a ⊢ Ψ a) (l : List α) : along Φ l ⊢ along Ψ l := by
  induction l with
  | nil => exact Entails.refl _
  | cons a l ih => exact BIClass.sep_mono (h a) ih

/-- The list counts up from `n`. -/
def From : ℕ → List (Fin 16) → Prop
  | _, [] => True
  | n, a :: l => a.val = n ∧ From (n + 1) l

theorem from_chunks : From 0 chunks := by unfold chunks; simp [From]
theorem from_chunks₁ : From 1 chunks₁ := by unfold chunks₁; simp [From]

/-- Steps run along a list that counts up: what each step needs and leaves, and a state that moves on by one. -/
theorem runs_seq (c : Dev nD) (f : Fin 16 → Prog (TpuEff nD τ sig (Elt F) Λ₀ .tc) PUnit) (S : ℕ → sProp 𝕄)
    (A B : Fin 16 → sProp 𝕄) (Q : PUnit → sProp 𝕄)
    (h : ∀ (a : Fin 16) (k : PUnit → Prog (TpuEff nD τ sig (Elt F) Λ₀ .tc) PUnit),
      iprop(S a.val ∗ A a) ⊢ iprop(((S (a.val + 1) ∗ B a) -∗ runs c (k ⟨⟩) Q) -∗ runs c ((f a).bind k) Q))
    (l : List (Fin 16)) : ∀ (n : ℕ), From n l → ∀ (k : PUnit → Prog (TpuEff nD τ sig (Elt F) Λ₀ .tc) PUnit),
      iprop(S n ∗ along A l) ⊢ iprop(((S (n + l.length) ∗ along B l) -∗ runs c (k ⟨⟩) Q) -∗ runs c ((seq f l).bind k) Q) := by
  induction l with
  | nil =>
    intro n _ k
    show iprop(S n ∗ emp) ⊢ iprop(((S n ∗ emp) -∗ runs c (k ⟨⟩) Q) -∗ runs c (k ⟨⟩) Q)
    iintro H Hk
    iapply Hk; iexact H
  | cons a l ih =>
    intro n hn k
    obtain ⟨ha, hl⟩ := hn
    subst ha
    show iprop(S a.val ∗ (A a ∗ along A l))
      ⊢ iprop(((S (a.val + (l.length + 1)) ∗ (B a ∗ along B l)) -∗ runs c (k ⟨⟩) Q)
          -∗ runs c (((f a).bind fun _ => seq f l).bind k) Q)
    rw [show ((f a).bind fun _ => seq f l).bind k = (f a).bind fun _ => (seq f l).bind k from Prog.bind_assoc _ _ _,
      show a.val + (l.length + 1) = a.val + 1 + l.length by omega]
    iintro ⟨HS, HA, Hl⟩ Hk
    iapply (h a fun x => (seq f l).bind k) $$ [HS HA]
    · isplitl [HS] <;> iassumption
    iintro ⟨HS, HB⟩
    iapply (ih (a.val + 1) hl k) $$ [HS Hl]
    · isplitl [HS] <;> iassumption
    iintro ⟨HS, Hl⟩
    iapply Hk
    isplitl [HS]; · iexact HS
    isplitl [HB] <;> iassumption

/-! ## Local copies -/

section Local

variable {sp sp' : Space} {s : Shape} {e : EltTy}

/-- A local copy in flight: on completion chunk `dst` holds `g`, and the source is given back as it was lent. -/
def Copying (c : Dev nD) (src : Memref sig .tc sp s e) (dst : Memref sig .tc sp' s e) (sm : DmaSem sig)
    (q : PosShare TreeShare) (f : Buf (Elt F) (src.view.loc (c : Thread nD τ)))
    (g : Buf (Elt F) (dst.view.loc (c : Thread nD τ))) : sProp 𝕄 :=
  Transfers.Flight EC (c : Thread nD τ) (.dma sm) () dst.view.dmaCredit iprop(pts c dst fullShare g ∗ pts c src q f)

theorem runs_copy (c : Dev nD) {src : Memref sig .tc sp s e} {dst : Memref sig .tc sp' s e} {sm : DmaSem sig}
    {hsrc : src.view.WordExact} {hdst : dst.view.WordExact}
    {hsem : DmaTarget.Typed (nD := nD) (τ := τ) (p := .tc) sp (.dma sm) (.here dst)}
    (hpos : 0 < dst.view.dmaCredit) {q : PosShare TreeShare} {f : Buf (Elt F) (src.view.loc (c : Thread nD τ))}
    {g : Buf (Elt F) (dst.view.loc (c : Thread nD τ))} (h : dst.view.read (Elt F) g = src.view.read (Elt F) f)
    {k : PUnit → Prog (TpuEff nD τ sig (Elt F) Λ₀ .tc) PUnit} {Q : PUnit → sProp 𝕄} :
    iprop(pts c src q f ∗ anyPts c dst ∗ semVal ((c : Thread nD τ), .dma sm) 0)
      ⊢ iprop((Copying c src dst sm q f g -∗ runs c (k ⟨⟩) Q)
          -∗ runs c (.op (.enqueueDma src (.here dst) (.dma sm) hsrc hdst hsem) k) Q) := by
  iintro ⟨Hs, ⟨%d, Hd⟩, Hv⟩ Hk
  iapply (Transfers.wp_dmaLocal EC 𝒱₀ (c : Thread nD τ) none () dst.view.dmaCredit rfl hpos subset_rfl) $$ [Hs Hd Hv]
  · isplitl [Hs]; · iexact Hs
    isplitl [Hd] <;> iassumption
  iintro HF
  iapply Hk
  unfold Copying
  iapply (Transfers.Flight_mono EC (c : Thread nD τ) (sep_mono_left (Entails.of_eq
    (pointsTo_congr (fun i hi => write_eq_on dst.view d g _ h i hi))))) $$ HF

/-- The wait for a local copy. -/
theorem runs_copied (K : Dev nD × CI → ℕ) (c : Dev nD) {src : Memref sig .tc sp s e} {dst : Memref sig .tc sp' s e}
    {sm : DmaSem sig} {hsrc : src.view.WordExact} {hdst : dst.view.WordExact}
    {q : PosShare TreeShare} {f : Buf (Elt F) (src.view.loc (c : Thread nD τ))}
    {g : Buf (Elt F) (dst.view.loc (c : Thread nD τ))} {O : CellTallies nD τ sig Unit}
    (hO : Above 0 O) (hsm : sm.val < 4 ∨ 68 ≤ sm.val)
    {k : PUnit → Prog (TpuEff nD τ sig (Elt F) Λ₀ .tc) PUnit} {Q : PUnit → sProp 𝕄} :
    iprop(St X K c O ∗ Copying c src dst sm q f g)
      ⊢ iprop(((St X K c O ∗ pts c dst fullShare g ∗ pts c src q f ∗ semVal ((c : Thread nD τ), .dma sm) 0)
            -∗ runs c (k ⟨⟩) Q)
          -∗ runs c (.op (.waitDma2 sm src dst hsrc hdst) k) Q) := by
  unfold St Copying
  iintro ⟨⟨#HR, %W, HO⟩, HF⟩ Hk
  iapply (Transfers.wp_waitLocalO EC 𝒱₀ (c : Thread nD τ) none () (O := O) (W := W)
    (rfl : dst.view.dmaCredit = dst.view.dmaCredit)) $$ [HF HO]
  · isplitl [HF]; · iexact HF
    isplitl [HO]; · iexact HO
    iapply (mayWait c (.dma sm) (le_of_eq (lv_low c hsm)) hO)
    iapply (records_lev X K); iexact HR
  iintro ⟨⟨Hd, Hs⟩, Hv, HO⟩
  iapply Hk
  isplitl [HO]
  · isplitr; · iexact HR
    iexists _; iexact HO
  isplitl [Hd]; · iexact Hd
  isplitl [Hs] <;> iassumption

end Local

/-! ## Copies between devices, and their waits -/

section Remote

variable {sp sp' : Space} {s : Shape} {e : EltTy}

/-- The wait for a copy between devices, at a semaphore of a family: what the copy hands over, and the semaphore back at
    zero. -/
theorem runs_wait (K : Dev nD × CI → ℕ) (c : Dev nD) (f : Fin 4) (j : Fin 16) {src : Memref sig .tc sp s e}
    {dst : Memref sig .tc sp' s e} {hsrc : src.view.WordExact} {hdst : dst.view.WordExact}
    (hN : dst.view.dmaCredit = N) {b : ℕ} {O : CellTallies nD τ sig Unit} (hO : Above b O) (hb : lv (cell c f j) () ≤ b)
    {k : PUnit → Prog (TpuEff nD τ sig (Elt F) Λ₀ .tc) PUnit} {Q : PUnit → sProp 𝕄} :
    iprop(St X K c O ∗ cred (tallyAt (cell c f j) () N) ∗ atPos ER (cell c f j) 0 ∅ 0)
      ⊢ iprop(((St X K c O ∗ famPay X f c j ∗ semVal (cell c f j) 0) -∗ runs c (k ⟨⟩) Q)
          -∗ runs c (.op (.waitDma2 (fam f j) src dst hsrc hdst) k) Q) := by
  unfold St
  iintro ⟨⟨#HR, %W, HO⟩, Hc, Hat⟩ Hk
  ihave #HI := (records_inv X K (c, some (f, j))) $$ HR
  iapply (Rounds.wp_wait_rest_token 𝒱₀ ER (rd X) (c : Thread nD τ) none (κ := K (c, some (f, j)))
      (wpE_waitDma2_eq 𝒱₀ (c : Thread nD τ) none Set.univ) (Set.mem_univ _) () (O := O) (W := W) (R := 0) (m := 0) (T := ∅)
      (by rw [Nat.zero_add, expect_fam]; exact hN)) $$ [Hc HO Hat]
  · isplitr; · iexact HI
    isplitl [Hc]; · rw [hN]; iexact Hc
    isplitl [HO]; · iexact HO
    isplitr
    · iapply (mayWait c (.dma (fam f j)) hb hO)
      iapply (records_lev X K); iexact HR
    iexact Hat
  iintro ⟨HO, Hat, -, Hpay⟩
  imod (Rounds.cell_close ER (rd X) (Set.mem_univ (K (c, some (f, j)))) (fun h => h) (R := 0 + 1)
    (duties_later X (cell c f j))) $$ [Hat] with Hz
  · isplitr; · iexact HI
    iexact Hat
  iapply Hk
  isplitl [HO]
  · isplitr; · iexact HR
    iexists _; iexact HO
  isplitl [Hpay]
  · iapply (Entails.of_eq (rest_fam X c f j)) $$ Hpay
  iexact Hz

theorem barrier_bind (c : Dev nD) (k : PUnit → Prog (TpuEff nD τ sig (Elt F) Λ₀ .tc) PUnit) :
    (barrier c).bind k = .op (.semSignal (Dev.tc (ynb c)) sBar 1) fun _ => .op (.semSignal (Dev.tc (xnb c)) sBar 1) fun _ =>
      .op (.semWait sBar 2) k := rfl

/-- The barrier: a unit to each neighbour with what is handed over, then both neighbours'. -/
theorem runs_barrier (K : Dev nD × CI → ℕ) (c : Dev nD) {k : PUnit → Prog (TpuEff nD τ sig (Elt F) Λ₀ .tc) PUnit}
    {Q : PUnit → sProp 𝕄} :
    iprop(St X K c (O₀ c) ∗ cred (tallyAt (barCell c) () 2) ∗ atPos ER (barCell c) 0 ∅ 0
        ∗ dutyTok ER (barCell (ynb c)) 0 false ∗ dutyTok ER (barCell (xnb c)) 0 true
        ∗ barPayY (ynb c) ∗ barPayX (xnb c))
      ⊢ iprop(((St X K c (oweX c 0 + oweY c 0) ∗ barPayY c ∗ barPayX c ∗ semVal (barCell c) 0) -∗ runs c (k ⟨⟩) Q)
          -∗ runs c ((barrier c).bind k) Q) := by
  unfold St
  rw [barrier_bind]
  iintro ⟨⟨#HR, %W, HO⟩, Hc, Hat, HtY, HtX, HpY, HpX⟩ Hk
  ihave #HI := (records_inv X K (c, none)) $$ HR
  ihave #HIY := (records_inv X K (ynb c, none)) $$ HR
  ihave #HIX := (records_inv X K (xnb c, none)) $$ HR
  ihave #HrY := (records_reached X K (ynb c, none)) $$ HR
  ihave #HrX := (records_reached X K (xnb c, none)) $$ HR
  iapply (Rounds.wp_signal 𝒱₀ ER (rd X) (c : Thread nD τ) none (dst := (ynb c : Thread nD τ)) (κ := K (ynb c, none))
      (d := false) (by rw [duties_bar]; exact Finset.mem_univ _) (amount_bar X (ynb c) false) ()
      ((oweX c 0 + oweY c 0) + tallyAt (barCell (xnb c)) () 1) rfl) $$ [HO HtY HpY]
  · isplitr; · iexact HIY
    isplitl [HO]; · iexact HO
    isplitl [HtY]; · iexact HtY
    isplitl [HpY]; · rw [payload_bar, if_neg Bool.false_ne_true]; iexact HpY
    iexact HrY
  iintro HO
  iapply (Rounds.wp_signal 𝒱₀ ER (rd X) (c : Thread nD τ) none (dst := (xnb c : Thread nD τ)) (κ := K (xnb c, none))
      (d := true) (by rw [duties_bar]; exact Finset.mem_univ _) (amount_bar X (xnb c) true) ()
      (oweX c 0 + oweY c 0) rfl) $$ [HO HtX HpX]
  · isplitr; · iexact HIX
    isplitl [HO]; · iexact HO
    isplitl [HtX]; · iexact HtX
    isplitl [HpX]; · rw [payload_bar, if_pos rfl]; iexact HpX
    iexact HrX
  iintro HO
  iapply (Rounds.wp_wait_rest_token 𝒱₀ ER (rd X) (c : Thread nD τ) none (κ := K (c, none))
      (wpE_semWait_eq 𝒱₀ (c : Thread nD τ) none Set.univ) (Set.mem_univ _) () (O := oweX c 0 + oweY c 0) (W := W)
      (R := 0) (m := 0) (T := ∅) (by rw [Nat.zero_add, expect_bar])) $$ [Hc HO Hat]
  · isplitr; · iexact HI
    isplitl [Hc]; · iexact Hc
    isplitl [HO]; · iexact HO
    isplitr
    · iapply (mayWait c (.reg sBar) (le_of_eq (lv_bar c)) (above_row c 0))
      iapply (records_lev X K); iexact HR
    iexact Hat
  iintro ⟨HO, Hat, -, Hpay⟩
  imod (Rounds.cell_close ER (rd X) (Set.mem_univ (K (c, none))) (fun h => h) (R := 0 + 1)
    (duties_later X (barCell c))) $$ [Hat] with Hz
  · isplitr; · iexact HI
    iexact Hat
  ihave Hp := (Entails.of_eq (rest_bar X c)) $$ Hpay
  icases Hp with ⟨HpY, HpX⟩
  iapply Hk
  isplitl [HO]
  · isplitr; · iexact HR
    iexists _; iexact HO
  isplitl [HpY]; · iexact HpY
  isplitl [HpX] <;> iassumption

/-- A copy of a chunk to another device: `fs` names the sender's family, `fr` the receiver's. -/
theorem runs_send (K : Dev nD × CI → ℕ) (c n : Dev nD) (fs fr : Fin 4) (j : Fin 16) {src : Memref sig .tc sp s e}
    {dst : Memref sig .tc sp' s e} {hsc : dst.view.ref.isScScratch = false}
    {hsrc : src.view.WordExact} {hdst : dst.view.WordExact}
    {hsem : DmaTarget.Typed sp (.dma (fam fr j)) (.remote (Dev.tc n : Thread nD τ) dst (.dma (fam fs j)) hsc)}
    (hN : dst.view.dmaCredit = N) {q : PosShare TreeShare} {f : Buf (Elt F) (src.view.loc (c : Thread nD τ))}
    (g : Buf (Elt F) (dst.view.loc (n : Thread nD τ))) (h : dst.view.read (Elt F) g = src.view.read (Elt F) f)
    (hs : pts c src q f ⊢ famPay X fs c j) (hr : pts n dst fullShare g ⊢ famPay X fr n j)
    {O₁ : CellTallies nD τ sig Unit} (O : CellTallies nD τ sig Unit) (hO : O₁ = O + tallyAt (cell n fr j) () N)
    (hroute : τ.routes (c : Thread nD τ) (n : Thread nD τ) = true)
    {k : PUnit → Prog (TpuEff nD τ sig (Elt F) Λ₀ .tc) PUnit} {Q : PUnit → sProp 𝕄} :
    iprop(St X K c O₁ ∗ pts c src q f ∗ anyPts n dst ∗ dutyTok ER (cell c fs j) 0 false
        ∗ dutyTok ER (cell n fr j) 0 false)
      ⊢ iprop(((St X K c O ∗ cred (tallyAt (cell c fs j) () N)) -∗ runs c (k ⟨⟩) Q)
          -∗ runs c (.op (.enqueueDma src (.remote (Dev.tc n : Thread nD τ) dst (.dma (fam fs j)) hsc) (.dma (fam fr j))
              hsrc hdst hsem) k) Q) := by
  unfold St
  iintro ⟨⟨#HR, %W, HO⟩, Hs, ⟨%d, Hd⟩, Hts, Htr⟩ Hk
  ihave #HIs := (records_inv X K (c, some (fs, j))) $$ HR
  ihave #HIr := (records_inv X K (n, some (fr, j))) $$ HR
  ihave #Hrs := (records_reached X K (c, some (fs, j))) $$ HR
  ihave #Hrr := (records_reached X K (n, some (fr, j))) $$ HR
  iapply (Rounds.wp_send_pointsTo 𝒱₀ ER (rd X) (c : Thread nD τ) none (κ₁ := K (c, some (fs, j)))
    (κ₂ := K (n, some (fr, j))) (r₁ := 0) (r₂ := 0) (d₁ := false) (d₂ := false) (fd := d)
    (by rw [duties_fam]; exact Finset.mem_singleton_self _) (by rw [duties_fam]; exact Finset.mem_singleton_self _)
    () () N (show dst.view.amount (.dma (fam fr j)) = N from hN) (amount_fam X c fs j false) (amount_fam X n fr j false) O hO (W := W)
    (by rw [payload_fam]; exact hs)
    (by rw [payload_fam]; exact (Entails.of_eq (pointsTo_congr (fun i hi => write_eq_on dst.view d g _ h i hi))).trans hr)
    hroute)
    $$ [Hs Hd HO Hts Htr]
  · isplitr; · iexact HIs
    isplitr; · iexact HIr
    isplitl [Hs]; · iexact Hs
    isplitl [Hd]; · iexact Hd
    isplitl [HO]; · iexact HO
    isplitl [Hts]; · iexact Hts
    isplitr; · iexact Hrs
    isplitl [Htr]; · iexact Htr
    iexact Hrr
  iintro ⟨Hc, HO⟩
  iapply Hk
  isplitl [HO]
  · isplitr; · iexact HR
    iexists _; iexact HO
  iexact Hc

end Remote

end Cert.AllToAll
-- ==== Proof.Steps.lean ====
/-
# The steps of the kernel, one rule each

For every step: what the device gives up before it and what it holds after it, as chunks, semaphores at zero, copies in
flight, and what it still owes.
-/
module

public import proofs.«01_k».proof.Proof.Rules

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem op_bind {E : Type → Type} {α β γ : Type} (e : E β) (c : β → Prog E α) (k : α → Prog E γ) :
    (Prog.op e c).bind k = Prog.op e fun x => (c x).bind k := rfl
theorem ret_bind {E : Type → Type} {α γ : Type} (a : α) (k : α → Prog E γ) : (Prog.ret a).bind k = k a := rfl
theorem bind_bind {E : Type → Type} {α β γ : Type} (p : Prog E α) (f : α → Prog E β) (g : β → Prog E γ) :
    (p.bind f).bind g = p.bind fun a => (f a).bind g := Prog.bind_assoc p f g

theorem sYP_low (j : Fin 4) : (sYP j).val < 4 ∨ 68 ≤ (sYP j).val := by revert j; decide +kernel
theorem sLP_low (j : Fin 4) : (sLP j).val < 4 ∨ 68 ≤ (sLP j).val := by revert j; decide +kernel
theorem sST_low (k : Fin 16) : (sST k).val < 4 ∨ 68 ≤ (sST k).val := by revert k; decide +kernel
theorem sLO_low (k : Fin 16) : (sLO k).val < 4 ∨ 68 ≤ (sLO k).val := by revert k; decide +kernel

variable (X : Dev nD → S8192x2048.Idx → F .f32) (K : Dev nD × CI → ℕ) (c : Dev nD)

/-! ## Packing -/

/-- A semaphore of the device at zero. -/
abbrev zero (sm : DmaSem sig) : sProp 𝕄 := semVal ((c : Thread nD τ), .dma sm) 0

/-- The argument's chunks. -/
def xYp (j : Fin 16) : sProp 𝕄 := pts c (xY c j) fullShare (X c)
def xLp (j : Fin 16) : sProp 𝕄 := pts c (xL c j) fullShare (X c)
/-- Chunk `j` on its way into its slot. -/
def flyY (j : Fin 16) : sProp 𝕄 := Copying c (xY c j) (fy (slot j)) (sYP (slot j)) fullShare (X c) (FY X c j)
def flyL (j : Fin 16) : sProp 𝕄 := Copying c (xL c j) (fl (slot j)) (sLP (slot j)) fullShare (X c) (FL X c j)
/-- A slot with nothing on its way. -/
def freeY (j : Fin 4) : sProp 𝕄 := iprop(anyPts c (fy j) ∗ zero c (sYP j))
def freeL (j : Fin 4) : sProp 𝕄 := iprop(anyPts c (fl j) ∗ zero c (sLP j))
/-- A slot at place `n` of the order in which slots are used: chunk `n` on its way, or past the last chunk nothing. -/
def ringY (n : ℕ) : sProp 𝕄 := if h : n < 16 then flyY X c ⟨n, h⟩ else freeY c ⟨n % 4, Nat.mod_lt _ (by decide)⟩
def ringL (n : ℕ) : sProp 𝕄 := if h : n < 16 then flyL X c ⟨n, h⟩ else freeL c ⟨n % 4, Nat.mod_lt _ (by decide)⟩
def ring4Y (n : ℕ) : sProp 𝕄 := iprop(ringY X c n ∗ ringY X c (n + 1) ∗ ringY X c (n + 2) ∗ ringY X c (n + 3))
def ring4L (n : ℕ) : sProp 𝕄 := iprop(ringL X c n ∗ ringL X c (n + 1) ∗ ringL X c (n + 2) ∗ ringL X c (n + 3))
/-- The chunk of the argument that reuses the slot of chunk `j`. -/
def laterY (j : Fin 16) : sProp 𝕄 := if h : j.val + 4 < 16 then xYp X c ⟨j.val + 4, h⟩ else iprop(emp)
def laterL (j : Fin 16) : sProp 𝕄 := if h : j.val + 4 < 16 then xLp X c ⟨j.val + 4, h⟩ else iprop(emp)

theorem ringY_at (j : Fin 16) : ringY X c j.val = flyY X c j := dif_pos j.isLt
theorem ringL_at (j : Fin 16) : ringL X c j.val = flyL X c j := dif_pos j.isLt
theorem slot_later (j : Fin 16) (h : j.val + 4 < 16) : slot ⟨j.val + 4, h⟩ = slot j :=
  Fin.ext (by show (j.val + 4) % 4 = j.val % 4; omega)

theorem runs_startY (j : Fin 16)
    {k : PUnit → Prog (TpuEff nD τ sig (Elt F) Λ₀ .tc) PUnit} {Q : PUnit → sProp 𝕄} :
    iprop(xYp X c j ∗ freeY c (slot j)) ⊢ iprop((flyY X c j -∗ runs c (k ⟨⟩) Q) -∗ runs c ((startY c j).bind k) Q) := by
  unfold startY xYp freeY flyY
  rw [op_bind]
  iintro ⟨Hx, Hd, Hz⟩ Hk
  iapply (runs_copy (F := F) c (src := xY c j) (dst := fy (slot j)) (sm := sYP (slot j))
    (View.dmaCredit_pos _ (by decide)) (f := X c) (g := FY X c j) (read_fy X c j (slot j))) $$ [Hx Hd Hz]
  · isplitl [Hx]; · iexact Hx
    isplitl [Hd] <;> iassumption
  rw [ret_bind]; iexact Hk
theorem runs_startL (j : Fin 16)
    {k : PUnit → Prog (TpuEff nD τ sig (Elt F) Λ₀ .tc) PUnit} {Q : PUnit → sProp 𝕄} :
    iprop(xLp X c j ∗ freeL c (slot j)) ⊢ iprop((flyL X c j -∗ runs c (k ⟨⟩) Q) -∗ runs c ((startL c j).bind k) Q) := by
  unfold startL xLp freeL flyL
  rw [op_bind]
  iintro ⟨Hx, Hd, Hz⟩ Hk
  iapply (runs_copy (F := F) c (src := xL c j) (dst := fl (slot j)) (sm := sLP (slot j))
    (View.dmaCredit_pos _ (by decide)) (f := X c) (g := FL X c j) (read_fl X c j (slot j))) $$ [Hx Hd Hz]
  · isplitl [Hx]; · iexact Hx
    isplitl [Hd] <;> iassumption
  rw [ret_bind]; iexact Hk

theorem runs_nextY (j : Fin 16)
    {k : PUnit → Prog (TpuEff nD τ sig (Elt F) Λ₀ .tc) PUnit} {Q : PUnit → sProp 𝕄} :
    iprop(freeY c (slot j) ∗ laterY X c j)
      ⊢ iprop((ringY X c (j.val + 4) -∗ runs c (k ⟨⟩) Q) -∗ runs c ((nextY c j).bind k) Q) := by
  unfold nextY laterY
  by_cases h : j.val + 4 < 16
  · rw [dif_pos h, dif_pos h, show ringY X c (j.val + 4) = flyY X c ⟨j.val + 4, h⟩ from dif_pos h]
    iintro ⟨Hf, Hx⟩
    iapply (runs_startY X c ⟨j.val + 4, h⟩)
    isplitl [Hx]; · iexact Hx
    rw [slot_later]; iexact Hf
  · rw [dif_neg h, dif_neg h, ret_bind, show ringY X c (j.val + 4) = freeY c (slot j) from
      (dif_neg h).trans (congrArg (freeY (F := F) c) (Fin.ext (by show (j.val + 4) % 4 = j.val % 4; omega)))]
    iintro ⟨Hf, -⟩ Hk
    iapply Hk; iexact Hf
theorem runs_nextL (j : Fin 16)
    {k : PUnit → Prog (TpuEff nD τ sig (Elt F) Λ₀ .tc) PUnit} {Q : PUnit → sProp 𝕄} :
    iprop(freeL c (slot j) ∗ laterL X c j)
      ⊢ iprop((ringL X c (j.val + 4) -∗ runs c (k ⟨⟩) Q) -∗ runs c ((nextL c j).bind k) Q) := by
  unfold nextL laterL
  by_cases h : j.val + 4 < 16
  · rw [dif_pos h, dif_pos h, show ringL X c (j.val + 4) = flyL X c ⟨j.val + 4, h⟩ from dif_pos h]
    iintro ⟨Hf, Hx⟩
    iapply (runs_startL X c ⟨j.val + 4, h⟩)
    isplitl [Hx]; · iexact Hx
    rw [slot_later]; iexact Hf
  · rw [dif_neg h, dif_neg h, ret_bind, show ringL X c (j.val + 4) = freeL c (slot j) from
      (dif_neg h).trans (congrArg (freeL (F := F) c) (Fin.ext (by show (j.val + 4) % 4 = j.val % 4; omega)))]
    iintro ⟨Hf, -⟩ Hk
    iapply Hk; iexact Hf

/-! ## Rounding -/

/-- The rounded chunk the device keeps. -/
def lbPts (j : Fin 16) : sProp 𝕄 := pts c (lb j) fullShare (LB X c)

/-- A chunk stored from its slot is the rounded chunk. -/
theorem stored_yb (j : Fin 16) (i : Fin 4) (d : Buf (Elt F) ((yb j).view.loc (c : Thread nD τ))) :
    (pts c (yb j) fullShare ((ybW.access (rY j) : View sig .tc _ _ _).write (Elt F) d
      (k0_pay1 (fyW.view.readAt (Elt F) (rY4 i).toLoadRect (FY X c j))) Finset.univ) : sProp 𝕄) = ysPay X c j := by
  unfold ysPay
  refine pointsTo_congr fun x hx => write_eq_on (ybW.access (rY j) : View sig .tc _ _ _) d (YB X c) _
    (read_yb_access X c j i) x ?_
  have e : (ybW.access (rY j) : View sig .tc _ _ _).set = (yb j).view.set :=
    (View.set_slice ybW.view (rY j)).trans (access_yb j)
  rw [e]; exact hx

theorem runs_castY (j : Fin 16) {O : CellTallies nD τ sig Unit} (hO : Above 0 O)
    {k : PUnit → Prog (TpuEff nD τ sig (Elt F) Λ₀ .tc) PUnit} {Q : PUnit → sProp 𝕄} :
    iprop(St X K c O ∗ flyY X c j ∗ anyPts c (yb j))
      ⊢ iprop(((St X K c O ∗ freeY c (slot j) ∗ xYp X c j ∗ ysPay X c j) -∗ runs c (k ⟨⟩) Q)
          -∗ runs c ((castY c j).bind k) Q) := by
  unfold castY flyY xYp
  simp only [op_bind, ret_bind]
  iintro ⟨HS, HF, ⟨%d, Hd⟩⟩ Hk
  iapply (runs_copied X K c hO (sYP_low (slot j))) $$ [HS HF]
  · isplitl [HS] <;> iassumption
  iintro ⟨HS, Hf, Hx, Hz⟩
  iapply (wp_load 𝒱₀ (c : Thread nD τ) none Set.univ (m := fyW) (r := (rY4 (slot j)).toLoadRect)
    (S := (fy (slot j)).view.set) (f := FY X c j) (le_of_eq (access_fy (slot j)))) $$ Hf
  iintro Hf
  iapply (wp_load 𝒱₀ (c : Thread nD τ) none Set.univ (m := ybW) (r := (rY j).toLoadRect)
    (S := (yb j).view.set) (f := d) (le_of_eq (access_yb j))) $$ Hd
  iintro Hd
  iapply (wp_store 𝒱₀ (c : Thread nD τ) none Set.univ (m := ybW) (r := rY j) (Mk := Finset.univ)
    (S := (yb j).view.set) (f := d) (le_of_eq ((View.set_slice _ _).trans (access_yb j)))) $$ Hd
  iintro Hd
  iapply Hk
  isplitl [HS]; · iexact HS
  isplitl [Hf Hz]
  · unfold freeY
    isplitl [Hf]; · iexists _; iexact Hf
    iexact Hz
  isplitl [Hx]; · iexact Hx
  iapply (Entails.of_eq (stored_yb X c j (slot j) d)) $$ Hd

/-- A chunk stored from its slot is the rounded chunk. -/
theorem stored_lb (j : Fin 16) (i : Fin 4) (d : Buf (Elt F) ((lb j).view.loc (c : Thread nD τ))) :
    (pts c (lb j) fullShare ((lbW.access (rL j) : View sig .tc _ _ _).write (Elt F) d
      (k0_pay19 (flW.view.readAt (Elt F) (rL4 i).toLoadRect (FL X c j))) Finset.univ) : sProp 𝕄) = lbPts X c j := by
  unfold lbPts
  refine pointsTo_congr fun x hx => write_eq_on (lbW.access (rL j) : View sig .tc _ _ _) d (LB X c) _
    (read_lb_access X c j i) x ?_
  have e : (lbW.access (rL j) : View sig .tc _ _ _).set = (lb j).view.set :=
    (View.set_slice lbW.view (rL j)).trans (access_lb j)
  rw [e]; exact hx

theorem runs_castL (j : Fin 16) {O : CellTallies nD τ sig Unit} (hO : Above 0 O)
    {k : PUnit → Prog (TpuEff nD τ sig (Elt F) Λ₀ .tc) PUnit} {Q : PUnit → sProp 𝕄} :
    iprop(St X K c O ∗ flyL X c j ∗ anyPts c (lb j))
      ⊢ iprop(((St X K c O ∗ freeL c (slot j) ∗ xLp X c j ∗ lbPts X c j) -∗ runs c (k ⟨⟩) Q)
          -∗ runs c ((castL c j).bind k) Q) := by
  unfold castL flyL xLp
  simp only [op_bind, ret_bind]
  iintro ⟨HS, HF, ⟨%d, Hd⟩⟩ Hk
  iapply (runs_copied X K c hO (sLP_low (slot j))) $$ [HS HF]
  · isplitl [HS] <;> iassumption
  iintro ⟨HS, Hf, Hx, Hz⟩
  iapply (wp_load 𝒱₀ (c : Thread nD τ) none Set.univ (m := flW) (r := (rL4 (slot j)).toLoadRect)
    (S := (fl (slot j)).view.set) (f := FL X c j) (le_of_eq (access_fl (slot j)))) $$ Hf
  iintro Hf
  iapply (wp_load 𝒱₀ (c : Thread nD τ) none Set.univ (m := lbW) (r := (rL j).toLoadRect)
    (S := (lb j).view.set) (f := d) (le_of_eq (access_lb j))) $$ Hd
  iintro Hd
  iapply (wp_store 𝒱₀ (c : Thread nD τ) none Set.univ (m := lbW) (r := rL j) (Mk := Finset.univ)
    (S := (lb j).view.set) (f := d) (le_of_eq ((View.set_slice _ _).trans (access_lb j)))) $$ Hd
  iintro Hd
  iapply Hk
  isplitl [HS]; · iexact HS
  isplitl [Hf Hz]
  · unfold freeL
    isplitl [Hf]; · iexists _; iexact Hf
    iexact Hz
  isplitl [Hx]; · iexact Hx
  iapply (Entails.of_eq (stored_lb X c j (slot j) d)) $$ Hd

/-! ## Along the row -/

/-- The credit a device holds against a copy that pays semaphore `f j` of it. -/
abbrev due (f : Fin 4) (j : Fin 16) : sProp 𝕄 := cred (tallyAt (cell c f j) () N)
/-- The right to pay semaphore `f j` of device `n`. -/
abbrev right (n : Dev nD) (f : Fin 4) (j : Fin 16) : sProp 𝕄 := dutyTok ER (cell n f j) 0 false
/-- Semaphore `f j` before its only round. -/
abbrev fresh (f : Fin 4) (j : Fin 16) : sProp 𝕄 := atPos ER (cell c f j) 0 ∅ 0

theorem runs_sendY (j : Fin 16)
    {k : PUnit → Prog (TpuEff nD τ sig (Elt F) Λ₀ .tc) PUnit} {Q : PUnit → sProp 𝕄} :
    iprop(St X K c (oweX c 0 + oweY c j.val) ∗ ysPay X c j ∗ anyPts (ynb c) (rb j) ∗ right c 0 j ∗ right (ynb c) 1 j)
      ⊢ iprop(((St X K c (oweX c 0 + oweY c (j.val + 1)) ∗ due c 0 j) -∗ runs c (k ⟨⟩) Q)
          -∗ runs c ((sendY c j).bind k) Q) := by
  unfold sendY
  simp only [op_bind, ret_bind]
  exact runs_send X K c (ynb c) 0 1 j (src := yb j) (dst := rb j) rfl (q := fullShare) (f := YB X c) (RB X (ynb c))
    (read_rb X c j) (Entails.refl _) (Entails.refl _) (oweX c 0 + oweY c (j.val + 1))
    (by rw [oweY_step, add_assoc]) (by routes)

/-- One step of the loop that sends. -/
def sendNeeds (j : Fin 16) : sProp 𝕄 :=
  iprop(laterY X c j ∗ anyPts c (yb j) ∗ anyPts (ynb c) (rb j) ∗ right c 0 j ∗ right (ynb c) 1 j)
def sendLeaves (j : Fin 16) : sProp 𝕄 := iprop(xYp X c j ∗ due c 0 j)
def sendState (n : ℕ) : sProp 𝕄 := iprop(St X K c (oweX c 0 + oweY c n) ∗ ring4Y X c n)

theorem runs_stepY (j : Fin 16)
    {k : PUnit → Prog (TpuEff nD τ sig (Elt F) Λ₀ .tc) PUnit} {Q : PUnit → sProp 𝕄} :
    iprop(sendState X K c j.val ∗ sendNeeds X c j)
      ⊢ iprop(((sendState X K c (j.val + 1) ∗ sendLeaves X c j) -∗ runs c (k ⟨⟩) Q)
          -∗ runs c ((stepY c j).bind k) Q) := by
  unfold sendState sendNeeds sendLeaves stepY ring4Y
  rw [bind_bind, ringY_at]
  iintro ⟨⟨HS, Hr0, Hr1, Hr2, Hr3⟩, Hx, Hyb, Hrb, Ht, Ht'⟩ Hk
  iapply (runs_castY X K c j (((above_row c j.val)).mono (by decide))) $$ [HS Hr0 Hyb]
  · isplitl [HS]; · iexact HS
    isplitl [Hr0] <;> iassumption
  iintro ⟨HS, Hf, Hxp, Hys⟩
  rw [bind_bind]
  iapply (runs_nextY X c j) $$ [Hf Hx]
  · isplitl [Hf] <;> iassumption
  iintro Hr4
  iapply (runs_sendY X K c j) $$ [HS Hys Hrb Ht Ht']
  · isplitl [HS]; · iexact HS
    isplitl [Hys]; · iexact Hys
    isplitl [Hrb]; · iexact Hrb
    isplitl [Ht] <;> iassumption
  iintro ⟨HS, Hd⟩
  iapply Hk
  isplitl [HS Hr1 Hr2 Hr3 Hr4]
  · isplitl [HS]; · iexact HS
    isplitl [Hr1]; · iexact Hr1
    isplitl [Hr2]; · iexact Hr2
    isplitl [Hr3]; · iexact Hr3
    iexact Hr4
  isplitl [Hxp] <;> iassumption

/-! ## Along the column -/

/-- A received chunk being stored, and a kept chunk being stored. -/
def flyST (j : Fin 16) : sProp 𝕄 := Copying c (rb j) (oF c j) (sST j) qR (RB X c) (OUT X c)
def flyLO (j : Fin 16) : sProp 𝕄 := Copying c (lb j) (oL c j) (sLO j) fullShare (LB X c) (OUT X c)

theorem oF_payload (j : Fin 16) :
    (pts (xnb c) (oF c j) fullShare (OUT X (xnb c)) : sProp 𝕄) ⊢ famPay X 3 (xnb c) j :=
  Entails.of_eq (congrArg (fun S : Finset S16384x1024.Idx =>
    ((oW.view.loc (xnb c : Thread nD τ)) ↦[S]{fullShare} (OUT X (xnb c)) : sProp 𝕄)) (set_oF_xnb c j))

theorem runs_relay (j : Fin 16)
    {k : PUnit → Prog (TpuEff nD τ sig (Elt F) Λ₀ .tc) PUnit} {Q : PUnit → sProp 𝕄} :
    iprop(St X K c (oweX c j.val) ∗ due c 1 j ∗ fresh c 1 j ∗ anyPts (xnb c) (oF c j) ∗ right c 2 j ∗ right (xnb c) 3 j
        ∗ anyPts c (oF c j) ∗ zero c (sST j))
      ⊢ iprop(((St X K c (oweX c (j.val + 1)) ∗ zero c (sYR j) ∗ due c 2 j ∗ flyST X c j) -∗ runs c (k ⟨⟩) Q)
          -∗ runs c ((relay c j).bind k) Q) := by
  unfold relay flyST
  simp only [op_bind, ret_bind]
  iintro ⟨HS, Hd, Ha, Hox, Ht, Ht', Hof, Hz⟩ Hk
  iapply (runs_wait X K c 1 j (src := yb j) (dst := rb j) rfl (above_oweX c j.val) (by rw [lv_fam]; decide)) $$ [HS Hd Ha]
  · isplitl [HS]; · iexact HS
    isplitl [Hd] <;> iassumption
  iintro ⟨HS, Hp, Hz1⟩
  ihave Hp := (show famPay X 1 c j ⊢ iprop((pts c (rb j) qL (RB X c)) ∗ pts c (rb j) qR (RB X c)) from
    (pointsTo_share (PosShare.mem_left_op_right _)).1) $$ Hp
  icases Hp with ⟨HpL, HpR⟩
  iapply (runs_send X K c (xnb c) 2 3 j (src := rb j) (dst := oF c j) rfl (q := qL) (f := RB X c) (OUT X (xnb c))
    (read_oF_xnb X c j) (Entails.refl _) (oF_payload X c j) (oweX c (j.val + 1)) (oweX_step c j) (by routes))
    $$ [HS HpL Hox Ht Ht']
  · isplitl [HS]; · iexact HS
    isplitl [HpL]; · iexact HpL
    isplitl [Hox]; · iexact Hox
    isplitl [Ht] <;> iassumption
  iintro ⟨HS, Hd⟩
  iapply (runs_copy (F := F) c (src := rb j) (dst := oF c j) (sm := sST j) (View.dmaCredit_pos _ (by decide))
    (f := RB X c) (g := OUT X c) (read_oF X c j)) $$ [HpR Hof Hz]
  · isplitl [HpR]; · iexact HpR
    isplitl [Hof] <;> iassumption
  iintro HF
  iapply Hk
  isplitl [HS]; · iexact HS
  isplitl [Hz1]; · iexact Hz1
  isplitl [Hd] <;> iassumption

theorem runs_storeL (j : Fin 16)
    {k : PUnit → Prog (TpuEff nD τ sig (Elt F) Λ₀ .tc) PUnit} {Q : PUnit → sProp 𝕄} :
    iprop(lbPts X c j ∗ anyPts c (oL c j) ∗ zero c (sLO j))
      ⊢ iprop((flyLO X c j -∗ runs c (k ⟨⟩) Q) -∗ runs c ((storeL c j).bind k) Q) := by
  unfold storeL flyLO lbPts
  simp only [op_bind, ret_bind]
  exact runs_copy (F := F) c (src := lb j) (dst := oL c j) (sm := sLO j) (View.dmaCredit_pos _ (by decide))
    (f := LB X c) (g := OUT X c) (read_oL X c j)

/-- One step of the loop that passes on. -/
def passNeeds (j : Fin 16) : sProp 𝕄 :=
  iprop((due c 1 j ∗ fresh c 1 j ∗ anyPts (xnb c) (oF c j) ∗ right c 2 j ∗ right (xnb c) 3 j ∗ anyPts c (oF c j)
      ∗ zero c (sST j))
    ∗ laterL X c j ∗ anyPts c (lb j) ∗ anyPts c (oL c j) ∗ zero c (sLO j))
def passLeaves (j : Fin 16) : sProp 𝕄 :=
  iprop(zero c (sYR j) ∗ due c 2 j ∗ flyST X c j ∗ xLp X c j ∗ flyLO X c j)
def passState (n : ℕ) : sProp 𝕄 := iprop(St X K c (oweX c n) ∗ ring4L X c n)

theorem runs_stepX (j : Fin 16)
    {k : PUnit → Prog (TpuEff nD τ sig (Elt F) Λ₀ .tc) PUnit} {Q : PUnit → sProp 𝕄} :
    iprop(passState X K c j.val ∗ passNeeds X c j)
      ⊢ iprop(((passState X K c (j.val + 1) ∗ passLeaves X c j) -∗ runs c (k ⟨⟩) Q)
          -∗ runs c ((stepX c j).bind k) Q) := by
  unfold passState passNeeds passLeaves stepX ring4L
  rw [bind_bind, ringL_at]
  iintro ⟨⟨HS, Hr0, Hr1, Hr2, Hr3⟩, Hrel, Hx, Hlb, Hol, Hz⟩ Hk
  iapply (runs_relay X K c j) $$ [HS Hrel]
  · isplitl [HS] <;> iassumption
  iintro ⟨HS, Hz1, Hd, HST⟩
  rw [bind_bind]
  iapply (runs_castL X K c j ((above_oweX c (j.val + 1)).mono (by decide))) $$ [HS Hr0 Hlb]
  · isplitl [HS]; · iexact HS
    isplitl [Hr0] <;> iassumption
  iintro ⟨HS, Hf, Hxp, Hl⟩
  rw [bind_bind]
  iapply (runs_nextL X c j) $$ [Hf Hx]
  · isplitl [Hf] <;> iassumption
  iintro Hr4
  iapply (runs_storeL X c j) $$ [Hl Hol Hz]
  · isplitl [Hl]; · iexact Hl
    isplitl [Hol] <;> iassumption
  iintro HLO
  iapply Hk
  isplitl [HS Hr1 Hr2 Hr3 Hr4]
  · isplitl [HS]; · iexact HS
    isplitl [Hr1]; · iexact Hr1
    isplitl [Hr2]; · iexact Hr2
    isplitl [Hr3]; · iexact Hr3
    iexact Hr4
  isplitl [Hz1]; · iexact Hz1
  isplitl [Hd]; · iexact Hd
  isplitl [HST]; · iexact HST
  isplitl [Hxp] <;> iassumption

/-! ## The last waits -/

theorem runs_waitYS (j : Fin 16)
    {k : PUnit → Prog (TpuEff nD τ sig (Elt F) Λ₀ .tc) PUnit} {Q : PUnit → sProp 𝕄} :
    iprop(St X K c 0 ∗ due c 0 j ∗ fresh c 0 j)
      ⊢ iprop(((St X K c 0 ∗ ysPay X c j ∗ zero c (sYS j)) -∗ runs c (k ⟨⟩) Q) -∗ runs c ((waitYS c j).bind k) Q) := by
  unfold waitYS
  simp only [op_bind, ret_bind]
  exact runs_wait X K c 0 j (src := rb j) (dst := yb j) rfl (above_zero 0) (by rw [lv_fam]; decide)
theorem runs_waitXS (j : Fin 16)
    {k : PUnit → Prog (TpuEff nD τ sig (Elt F) Λ₀ .tc) PUnit} {Q : PUnit → sProp 𝕄} :
    iprop(St X K c 0 ∗ due c 2 j ∗ fresh c 2 j)
      ⊢ iprop(((St X K c 0 ∗ xsPay X c j ∗ zero c (sXS j)) -∗ runs c (k ⟨⟩) Q) -∗ runs c ((waitXS c j).bind k) Q) := by
  unfold waitXS
  simp only [op_bind, ret_bind]
  exact runs_wait X K c 2 j (src := oF c j) (dst := rb j) rfl (above_zero 0) (by rw [lv_fam]; decide)
theorem runs_waitXR (j : Fin 16)
    {k : PUnit → Prog (TpuEff nD τ sig (Elt F) Λ₀ .tc) PUnit} {Q : PUnit → sProp 𝕄} :
    iprop(St X K c 0 ∗ due c 3 j ∗ fresh c 3 j)
      ⊢ iprop(((St X K c 0 ∗ xrPay X c j ∗ zero c (sXR j)) -∗ runs c (k ⟨⟩) Q) -∗ runs c ((waitXR c j).bind k) Q) := by
  unfold waitXR
  simp only [op_bind, ret_bind]
  exact runs_wait X K c 3 j (src := rb j) (dst := oX c j) rfl (above_zero 3) (by rw [lv_fam]; decide)
theorem runs_waitST (j : Fin 16)
    {k : PUnit → Prog (TpuEff nD τ sig (Elt F) Λ₀ .tc) PUnit} {Q : PUnit → sProp 𝕄} :
    iprop(St X K c 0 ∗ flyST X c j)
      ⊢ iprop(((St X K c 0 ∗ pts c (oF c j) fullShare (OUT X c) ∗ pts c (rb j) qR (RB X c) ∗ zero c (sST j))
          -∗ runs c (k ⟨⟩) Q) -∗ runs c ((waitST c j).bind k) Q) := by
  unfold waitST
  simp only [op_bind, ret_bind]
  exact runs_copied X K c (above_zero 0) (sST_low j)
theorem runs_waitLO (j : Fin 16)
    {k : PUnit → Prog (TpuEff nD τ sig (Elt F) Λ₀ .tc) PUnit} {Q : PUnit → sProp 𝕄} :
    iprop(St X K c 0 ∗ flyLO X c j)
      ⊢ iprop(((St X K c 0 ∗ pts c (oL c j) fullShare (OUT X c) ∗ pts c (lb j) fullShare (LB X c) ∗ zero c (sLO j))
          -∗ runs c (k ⟨⟩) Q) -∗ runs c ((waitLO c j).bind k) Q) := by
  unfold waitLO
  simp only [op_bind, ret_bind]
  exact runs_copied X K c (above_zero 0) (sLO_low j)

end Cert.AllToAll
-- ==== Proof.Device.lean ====
/-
# One device's run

What a device holds when the kernel starts, chunk by chunk, and what it holds when it ends: its argument as it was, its
result in its final values, every semaphore at zero, and nothing owed.
-/
module

public import proofs.«01_k».proof.Proof.Steps

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Rearranging lists of assertions -/

theorem along_append {α : Type} (Φ : α → sProp 𝕄) (l l' : List α) :
    along Φ (l ++ l') ⊣⊢ iprop(along Φ l ∗ along Φ l') := by
  induction l with
  | nil =>
    constructor
    · show along Φ l' ⊢ iprop(emp ∗ along Φ l')
      iintro H; isplitr; · iempintro
      iexact H
    · show iprop(emp ∗ along Φ l') ⊢ along Φ l'
      iintro ⟨-, H⟩; iexact H
  | cons a l ih =>
    constructor
    · show iprop(Φ a ∗ along Φ (l ++ l')) ⊢ iprop((Φ a ∗ along Φ l) ∗ along Φ l')
      iintro ⟨Ha, H⟩
      ihave H := ih.1 $$ H
      icases H with ⟨H, H'⟩
      isplitl [Ha H]
      · isplitl [Ha] <;> iassumption
      iexact H'
    · show iprop((Φ a ∗ along Φ l) ∗ along Φ l') ⊢ iprop(Φ a ∗ along Φ (l ++ l'))
      iintro ⟨⟨Ha, H⟩, H'⟩
      isplitl [Ha]; · iexact Ha
      iapply ih.2
      isplitl [H] <;> iassumption

/-- `Φ` four places further on, where there is such a place. -/
def later (Φ : Fin 16 → sProp 𝕄) (j : Fin 16) : sProp 𝕄 := if h : j.val + 4 < 16 then Φ ⟨j.val + 4, h⟩ else iprop(emp)

theorem along_later (Φ : Fin 16 → sProp 𝕄) :
    along Φ chunks ⊢ iprop(along Φ [0, 1, 2, 3] ∗ along (later Φ) chunks) := by
  refine (along_append Φ [0, 1, 2, 3] [4, 5, 6, 7, 8, 9, 10, 11, 12, 13, 14, 15]).1.trans ?_
  iintro ⟨H, H'⟩
  isplitl [H]; · iexact H
  iapply (along_append (later Φ) [0, 1, 2, 3, 4, 5, 6, 7, 8, 9, 10, 11] [12, 13, 14, 15]).2
  isplitl [H']
  · iexact H'
  · show iprop(_) ⊢ iprop(emp ∗ emp ∗ emp ∗ emp ∗ emp)
    iintro -
    isplitr; · iempintro
    isplitr; · iempintro
    isplitr; · iempintro
    isplitr <;> iempintro

theorem along_head (Φ : Fin 16 → sProp 𝕄) : along Φ chunks ⊢ iprop(Φ 0 ∗ along Φ chunks₁) := Entails.refl _
theorem along_unhead (Φ : Fin 16 → sProp 𝕄) : iprop(Φ 0 ∗ along Φ chunks₁) ⊢ along Φ chunks := Entails.refl _
theorem along_all (Φ : Fin 16 → sProp 𝕄) : along Φ chunks ⊢ bigSep Finset.univ Φ := Entails.of_eq (along_chunks Φ)
theorem all_along (Φ : Fin 16 → sProp 𝕄) : bigSep Finset.univ Φ ⊢ along Φ chunks := Entails.of_eq (along_chunks Φ).symm

variable (X : Dev nD → S8192x2048.Idx → F .f32) (K : Dev nD × CI → ℕ) (c : Dev nD)

theorem along_laterY : along (xYp X c) chunks ⊢ iprop(along (xYp X c) [0, 1, 2, 3] ∗ along (laterY X c) chunks) :=
  along_later (xYp X c)
theorem along_laterL : along (xLp X c) chunks ⊢ iprop(along (xLp X c) [0, 1, 2, 3] ∗ along (laterL X c) chunks) :=
  along_later (xLp X c)

theorem sendNeeds_along (l : List (Fin 16)) (h : l.Nodup) :
    iprop(along (laterY X c) l ∗ along (fun j => anyPts c (yb j)) l ∗ along (fun j => anyPts (ynb c) (rb j)) l
        ∗ along (right c 0) l ∗ along (right (ynb c) 1) l) ⊢ along (sendNeeds X c) l := by
  unfold sendNeeds
  simp only [fun Φ : Fin 16 → sProp 𝕄 => along_eq_bigSep Φ l h, bigSep_sep']
  exact Entails.refl _
theorem sendLeaves_along (l : List (Fin 16)) (h : l.Nodup) :
    along (sendLeaves X c) l ⊢ iprop(along (xYp X c) l ∗ along (due c 0) l) := by
  unfold sendLeaves
  simp only [fun Φ : Fin 16 → sProp 𝕄 => along_eq_bigSep Φ l h, bigSep_sep']
  exact Entails.refl _
theorem passNeeds_along (l : List (Fin 16)) (h : l.Nodup) :
    iprop((along (due c 1) l ∗ along (fresh c 1) l ∗ along (fun j => anyPts (xnb c) (oF c j)) l ∗ along (right c 2) l
          ∗ along (right (xnb c) 3) l ∗ along (fun j => anyPts c (oF c j)) l ∗ along (fun j => zero c (sST j)) l)
        ∗ along (laterL X c) l ∗ along (fun j => anyPts c (lb j)) l ∗ along (fun j => anyPts c (oL c j)) l
        ∗ along (fun j => zero c (sLO j)) l) ⊢ along (passNeeds X c) l := by
  unfold passNeeds
  simp only [fun Φ : Fin 16 → sProp 𝕄 => along_eq_bigSep Φ l h, bigSep_sep']
  exact Entails.refl _
theorem passLeaves_along (l : List (Fin 16)) (h : l.Nodup) :
    along (passLeaves X c) l ⊢ iprop(along (fun j => zero c (sYR j)) l ∗ along (due c 2) l ∗ along (flyST X c) l
      ∗ along (xLp X c) l ∗ along (flyLO X c) l) := by
  unfold passLeaves
  simp only [fun Φ : Fin 16 → sProp 𝕄 => along_eq_bigSep Φ l h, bigSep_sep']
  exact Entails.refl _

/-! ## The rings before and after -/

theorem ring4Y_first : along (flyY X c) [0, 1, 2, 3] ⊢ ring4Y X c 0 := by
  show iprop(flyY X c 0 ∗ flyY X c 1 ∗ flyY X c 2 ∗ flyY X c 3 ∗ emp)
    ⊢ iprop(flyY X c 0 ∗ flyY X c 1 ∗ flyY X c 2 ∗ flyY X c 3)
  iintro ⟨H0, H1, H2, H3, -⟩
  isplitl [H0]; · iexact H0
  isplitl [H1]; · iexact H1
  isplitl [H2] <;> iassumption
theorem ring4L_first : along (flyL X c) [0, 1, 2, 3] ⊢ ring4L X c 0 := by
  show iprop(flyL X c 0 ∗ flyL X c 1 ∗ flyL X c 2 ∗ flyL X c 3 ∗ emp)
    ⊢ iprop(flyL X c 0 ∗ flyL X c 1 ∗ flyL X c 2 ∗ flyL X c 3)
  iintro ⟨H0, H1, H2, H3, -⟩
  isplitl [H0]; · iexact H0
  isplitl [H1]; · iexact H1
  isplitl [H2] <;> iassumption
theorem free_along (Φ : Fin 4 → sProp 𝕄) : bigSep Finset.univ Φ ⊢ along (fun j => Φ (slot j)) [0, 1, 2, 3] := by
  rw [bigSep_univ_eq_bigSepL [0, 1, 2, 3] (by decide) (by decide)]
  show iprop(Φ 0 ∗ Φ 1 ∗ Φ 2 ∗ Φ 3) ⊢ iprop(Φ 0 ∗ Φ 1 ∗ Φ 2 ∗ Φ 3 ∗ emp)
  iintro ⟨H0, H1, H2, H3⟩
  isplitl [H0]; · iexact H0
  isplitl [H1]; · iexact H1
  isplitl [H2]; · iexact H2
  isplitl [H3]; · iexact H3
  iempintro
theorem ring4Y_last : ring4Y X c 16 ⊢ bigSep Finset.univ (freeY (F := F) c) := by
  rw [bigSep_univ_eq_bigSepL [0, 1, 2, 3] (by decide) (by decide)]
  exact Entails.refl _
theorem ring4L_last : ring4L X c 16 ⊢ bigSep Finset.univ (freeL (F := F) c) := by
  rw [bigSep_univ_eq_bigSepL [0, 1, 2, 3] (by decide) (by decide)]
  exact Entails.refl _

/-! ## What is handed over at the barrier -/

theorem barPayY_intro : (bigSep Finset.univ fun j : Fin 16 => anyPts (F := F) c (rb j)) ⊢ barPayY (F := F) (ynb c) := by
  unfold barPayY; rw [ynb_ynb]
theorem oX_oF (j : Fin 16) : anyPts (F := F) c (oX c j) ⊢ anyPts (F := F) (xnb (xnb c)) (oF (xnb c) j) := by
  rw [xnb_xnb]
  iintro ⟨%f, H⟩
  iexists f
  have e : (oF (xnb c) j).view.set = (oX c j).view.set := (set_oF_xnb (xnb c) j).trans (by rw [xnb_xnb])
  iapply (Entails.of_eq (congrArg (fun S : Finset S16384x1024.Idx =>
    ((oW.view.loc (c : Thread nD τ)) ↦[S]{fullShare} f : sProp 𝕄)) e.symm)) $$ H
theorem barPayX_intro : (bigSep Finset.univ fun j : Fin 16 => anyPts (F := F) c (oX c j)) ⊢ barPayX (F := F) (xnb c) := by
  unfold barPayX; exact bigSep_mono fun j _ => oX_oF c j

/-! ## The run -/

/-- `Φ j` for every chunk `j`. -/
abbrev each (Φ : Fin 16 → sProp 𝕄) : sProp 𝕄 := bigSep Finset.univ Φ

/-- What device `c` starts from, besides its argument: the rest of its memory, -/
def memBefore : sProp 𝕄 :=
  iprop(each (fun j => anyPts c (yb j)) ∗ each (fun j => anyPts c (rb j)) ∗ each (fun j => anyPts c (lb j))
    ∗ each (fun j => anyPts c (oF c j)) ∗ each (fun j => anyPts c (oL c j)) ∗ each (fun j => anyPts c (oX c j))
    ∗ bigSep Finset.univ (freeY c) ∗ bigSep Finset.univ (freeL c)
    ∗ each (fun j => zero c (sST j)) ∗ each (fun j => zero c (sLO j)))
/-- its rights to pay the shared semaphores, -/
def rights : sProp 𝕄 :=
  iprop((dutyTok ER (barCell (ynb c)) 0 false ∗ dutyTok ER (barCell (xnb c)) 0 true)
    ∗ each (right c 0) ∗ each (right (ynb c) 1) ∗ each (right c 2) ∗ each (right (xnb c) 3))
/-- its own shared semaphores before their only round, -/
def freshAll : sProp 𝕄 :=
  iprop(atPos ER (barCell c) 0 ∅ 0 ∗ each (fresh c 0) ∗ each (fresh c 1) ∗ each (fresh c 2) ∗ each (fresh c 3))
/-- and the credit against what the others owe it. -/
def duesBefore : sProp 𝕄 := iprop(cred (tallyAt (barCell c) () 2) ∗ each (due c 1) ∗ each (due c 3))

/-- What device `c` ends with: its memory, with the result in its final values, -/
def memAfter : sProp 𝕄 :=
  iprop(each (ysPay X c) ∗ each (xsPay X c) ∗ each (fun j => pts c (rb j) qR (RB X c)) ∗ each (lbPts X c)
    ∗ each (fun j => pts c (oF c j) fullShare (OUT X c)) ∗ each (fun j => pts c (oL c j) fullShare (OUT X c))
    ∗ each (xrPay X c) ∗ bigSep Finset.univ (freeY c) ∗ bigSep Finset.univ (freeL c)
    ∗ each (fun j => zero c (sST j)) ∗ each (fun j => zero c (sLO j)))
/-- and its shared semaphores at zero. -/
def zeroAll : sProp 𝕄 :=
  iprop(semVal (barCell c) 0 ∗ each (fun j => zero c (sYS j)) ∗ each (fun j => zero c (sYR j))
    ∗ each (fun j => zero c (sXS j)) ∗ each (fun j => zero c (sXR j)))

theorem bind_ret_right (p : Prog (TpuEff nD τ sig (Elt F) Λ₀ .tc) PUnit) : p.bind .ret = p := Prog.bind_pure p

theorem runs_device (Q : PUnit → sProp 𝕄) :
    iprop(St X K c (O₀ c) ∗ (each (xYp X c) ∗ each (xLp X c)) ∗ memBefore c ∗ rights c ∗ freshAll c ∗ duesBefore c)
      ⊢ iprop(((St X K c 0 ∗ (each (xYp X c) ∗ each (xLp X c)) ∗ memAfter X c ∗ zeroAll c) -∗ Q ⟨⟩)
          -∗ runs c (deviceBody c) Q) := by
  unfold memBefore rights freshAll duesBefore deviceBody
  iintro ⟨HS, ⟨HxY, HxL⟩, ⟨Hyb, Hrb, Hlb, HoF, HoL, HoX, HfY, HfL, HzST, HzLO⟩,
    ⟨⟨HtBY, HtBX⟩, Ht0, Ht1, Ht2, Ht3⟩, ⟨HaB, Ha0, Ha1, Ha2, Ha3⟩, ⟨HdB, Hd1, Hd3⟩⟩ Hk
  ihave HxY := (all_along _) $$ HxY
  ihave HxL := (all_along _) $$ HxL
  ihave HxY := (along_laterY X c) $$ HxY
  ihave HxL := (along_laterL X c) $$ HxL
  icases HxY with ⟨HxY, HlY⟩
  icases HxL with ⟨HxL, HlL⟩
  ihave HfY := (free_along _) $$ HfY
  ihave HfL := (free_along _) $$ HfL
  -- packing starts
  iapply (runs_seq c (startY c) (fun _ => iprop(emp)) (fun j => iprop(xYp X c j ∗ freeY c (slot j))) (flyY X c) Q
    (fun a k => by
      iintro ⟨-, H⟩ Hk
      iapply (runs_startY X c a) $$ H
      iintro H
      iapply Hk
      isplitr; · iempintro
      iexact H) [0, 1, 2, 3] 0 (by simp [From]) _) $$ [HxY HfY]
  · isplitr; · iempintro
    iapply (along_sep _ _ _).2
    isplitl [HxY] <;> iassumption
  iintro ⟨-, HrY⟩
  ihave HrY := (ring4Y_first X c) $$ HrY
  iapply (runs_seq c (startL c) (fun _ => iprop(emp)) (fun j => iprop(xLp X c j ∗ freeL c (slot j))) (flyL X c) Q
    (fun a k => by
      iintro ⟨-, H⟩ Hk
      iapply (runs_startL X c a) $$ H
      iintro H
      iapply Hk
      isplitr; · iempintro
      iexact H) [0, 1, 2, 3] 0 (by simp [From]) _) $$ [HxL HfL]
  · isplitr; · iempintro
    iapply (along_sep _ _ _).2
    isplitl [HxL] <;> iassumption
  iintro ⟨-, HrL⟩
  ihave HrL := (ring4L_first X c) $$ HrL
  -- the first chunk is rounded and its slot reused
  ihave Hyb := (all_along _) $$ Hyb
  ihave Hyb := (along_head _) $$ Hyb
  icases Hyb with ⟨Hyb0, Hyb⟩
  ihave HlY := (along_head _) $$ HlY
  icases HlY with ⟨HlY0, HlY⟩
  unfold ring4Y
  icases HrY with ⟨Hr0, Hr1, Hr2, Hr3⟩
  ihave Hr0 := (show ringY X c 0 ⊢ flyY X c 0 from Entails.of_eq (ringY_at X c 0)) $$ Hr0
  iapply (runs_castY X K c 0 (above_launch c)) $$ [HS Hr0 Hyb0]
  · isplitl [HS]; · iexact HS
    isplitl [Hr0] <;> iassumption
  iintro ⟨HS, Hf, HxY0, Hys0⟩
  iapply (runs_nextY X c 0) $$ [Hf HlY0]
  · isplitl [Hf] <;> iassumption
  iintro Hr4
  -- the barrier
  iapply (runs_barrier X K c) $$ [HS HdB HaB HtBY HtBX Hrb HoX]
  · isplitl [HS]; · iexact HS
    isplitl [HdB]; · iexact HdB
    isplitl [HaB]; · iexact HaB
    isplitl [HtBY]; · iexact HtBY
    isplitl [HtBX]; · iexact HtBX
    isplitl [Hrb]
    · iapply (barPayY_intro c) $$ Hrb
    · iapply (barPayX_intro c) $$ HoX
  iintro ⟨HS, HpY, HpX, HzB⟩
  unfold barPayY barPayX
  -- the first chunk is sent, then the others
  ihave HpY := (all_along _) $$ HpY
  ihave HpY := (along_head _) $$ HpY
  icases HpY with ⟨HpY0, HpY⟩
  ihave Ht0 := (all_along _) $$ Ht0
  ihave Ht0 := (along_head _) $$ Ht0
  icases Ht0 with ⟨Ht00, Ht0⟩
  ihave Ht1 := (all_along _) $$ Ht1
  ihave Ht1 := (along_head _) $$ Ht1
  icases Ht1 with ⟨Ht10, Ht1⟩
  iapply (runs_sendY X K c 0) $$ [HS Hys0 HpY0 Ht00 Ht10]
  · isplitl [HS]; · iexact HS
    isplitl [Hys0]; · iexact Hys0
    isplitl [HpY0]; · iexact HpY0
    isplitl [Ht00] <;> iassumption
  iintro ⟨HS, Hd00⟩
  iapply (runs_seq c (stepY c) (sendState X K c) (sendNeeds X c) (sendLeaves X c) Q (fun a k => runs_stepY X K c a)
    chunks₁ 1 from_chunks₁ _) $$ [HS Hr1 Hr2 Hr3 Hr4 HlY Hyb HpY Ht0 Ht1]
  · isplitl [HS Hr1 Hr2 Hr3 Hr4]
    · unfold sendState ring4Y
      isplitl [HS]; · iexact HS
      isplitl [Hr1]; · iexact Hr1
      isplitl [Hr2]; · iexact Hr2
      isplitl [Hr3]; · iexact Hr3
      iexact Hr4
    iapply (sendNeeds_along X c chunks₁ (by decide))
    isplitl [HlY]; · iexact HlY
    isplitl [Hyb]; · iexact Hyb
    isplitl [HpY]; · iexact HpY
    isplitl [Ht0] <;> iassumption
  iintro ⟨HS, Hs⟩
  ihave Hs := (sendLeaves_along X c chunks₁ (by decide)) $$ Hs
  icases Hs with ⟨HxY, Hd0⟩
  ihave HxY := (along_unhead (xYp X c)) $$ [HxY0 HxY]
  · isplitl [HxY0] <;> iassumption
  ihave Hd0 := (along_unhead (due c 0)) $$ [Hd00 Hd0]
  · isplitl [Hd00] <;> iassumption
  ihave HS := (show sendState X K c (1 + chunks₁.length) ⊢ iprop(St X K c (oweX c 0) ∗ ring4Y X c 16) from by
    unfold sendState
    rw [show 1 + chunks₁.length = 16 from rfl, oweY_last, add_zero]) $$ HS
  icases HS with ⟨HS, HrY⟩
  -- the loop that passes on
  ihave Hd1 := (all_along _) $$ Hd1
  ihave Ha1 := (all_along _) $$ Ha1
  ihave HpX := (all_along _) $$ HpX
  ihave Ht2 := (all_along _) $$ Ht2
  ihave Ht3 := (all_along _) $$ Ht3
  ihave HoF := (all_along _) $$ HoF
  ihave HzST := (all_along _) $$ HzST
  ihave Hlb := (all_along _) $$ Hlb
  ihave HoL := (all_along _) $$ HoL
  ihave HzLO := (all_along _) $$ HzLO
  iapply (runs_seq c (stepX c) (passState X K c) (passNeeds X c) (passLeaves X c) Q (fun a k => runs_stepX X K c a)
    chunks 0 from_chunks _) $$ [HS HrL Hd1 Ha1 HpX Ht2 Ht3 HoF HzST HlL Hlb HoL HzLO]
  · isplitl [HS HrL]
    · unfold passState
      isplitl [HS] <;> iassumption
    iapply (passNeeds_along X c chunks (by decide))
    isplitl [Hd1 Ha1 HpX Ht2 Ht3 HoF HzST]
    · isplitl [Hd1]; · iexact Hd1
      isplitl [Ha1]; · iexact Ha1
      isplitl [HpX]; · iexact HpX
      isplitl [Ht2]; · iexact Ht2
      isplitl [Ht3]; · iexact Ht3
      isplitl [HoF] <;> iassumption
    isplitl [HlL]; · iexact HlL
    isplitl [Hlb]; · iexact Hlb
    isplitl [HoL] <;> iassumption
  iintro ⟨HS, Hs⟩
  ihave Hs := (passLeaves_along X c chunks (by decide)) $$ Hs
  icases Hs with ⟨HzYR, Hd2, HST, HxL, HLO⟩
  ihave HS := (show passState X K c (0 + chunks.length) ⊢ iprop(St X K c 0 ∗ ring4L X c 16) from by
    unfold passState
    rw [show 0 + chunks.length = 16 from rfl, oweX_last]) $$ HS
  icases HS with ⟨HS, HrL⟩
  -- the last waits
  ihave Ha0 := (all_along _) $$ Ha0
  ihave Ha2 := (all_along _) $$ Ha2
  ihave Ha3 := (all_along _) $$ Ha3
  ihave Hd3 := (all_along _) $$ Hd3
  iapply (runs_seq c (waitYS c) (fun _ => St X K c 0) (fun j => iprop(due c 0 j ∗ fresh c 0 j))
    (fun j => iprop(ysPay X c j ∗ zero c (sYS j))) Q (fun a k => runs_waitYS X K c a) chunks 0 from_chunks _)
    $$ [HS Hd0 Ha0]
  · isplitl [HS]; · iexact HS
    iapply (along_sep _ _ _).2
    isplitl [Hd0] <;> iassumption
  iintro ⟨HS, Hs⟩
  ihave Hs := (along_sep _ _ _).1 $$ Hs
  icases Hs with ⟨Hys, HzYS⟩
  iapply (runs_seq c (waitXS c) (fun _ => St X K c 0) (fun j => iprop(due c 2 j ∗ fresh c 2 j))
    (fun j => iprop(xsPay X c j ∗ zero c (sXS j))) Q (fun a k => runs_waitXS X K c a) chunks 0 from_chunks _)
    $$ [HS Hd2 Ha2]
  · isplitl [HS]; · iexact HS
    iapply (along_sep _ _ _).2
    isplitl [Hd2] <;> iassumption
  iintro ⟨HS, Hs⟩
  ihave Hs := (along_sep _ _ _).1 $$ Hs
  icases Hs with ⟨Hxs, HzXS⟩
  iapply (runs_seq c (waitST c) (fun _ => St X K c 0) (flyST X c)
    (fun j => iprop(pts c (oF c j) fullShare (OUT X c) ∗ pts c (rb j) qR (RB X c) ∗ zero c (sST j))) Q
    (fun a k => runs_waitST X K c a) chunks 0 from_chunks _) $$ [HS HST]
  · isplitl [HS] <;> iassumption
  iintro ⟨HS, Hs⟩
  ihave Hs := (along_sep _ _ _).1 $$ Hs
  icases Hs with ⟨HoF, Hs⟩
  ihave Hs := (along_sep _ _ _).1 $$ Hs
  icases Hs with ⟨Hrb, HzST⟩
  iapply (runs_seq c (waitLO c) (fun _ => St X K c 0) (flyLO X c)
    (fun j => iprop(pts c (oL c j) fullShare (OUT X c) ∗ lbPts X c j ∗ zero c (sLO j))) Q
    (fun a k => runs_waitLO X K c a) chunks 0 from_chunks _) $$ [HS HLO]
  · isplitl [HS] <;> iassumption
  iintro ⟨HS, Hs⟩
  ihave Hs := (along_sep _ _ _).1 $$ Hs
  icases Hs with ⟨HoL, Hs⟩
  ihave Hs := (along_sep _ _ _).1 $$ Hs
  icases Hs with ⟨Hlb, HzLO⟩
  rw [← bind_ret_right (seq (waitXR c) chunks)]
  iapply (runs_seq c (waitXR c) (fun _ => St X K c 0) (fun j => iprop(due c 3 j ∗ fresh c 3 j))
    (fun j => iprop(xrPay X c j ∗ zero c (sXR j))) Q (fun a k => runs_waitXR X K c a) chunks 0 from_chunks _)
    $$ [HS Hd3 Ha3]
  · isplitl [HS]; · iexact HS
    iapply (along_sep _ _ _).2
    isplitl [Hd3] <;> iassumption
  iintro ⟨HS, Hs⟩
  ihave Hs := (along_sep _ _ _).1 $$ Hs
  icases Hs with ⟨Hxr, HzXR⟩
  -- everything back
  unfold runs; rw [wp_ret]; imodintro
  iapply Hk
  unfold memAfter zeroAll
  isplitl [HS]; · iexact HS
  isplitl [HxY HxL]
  · isplitl [HxY]
    · iapply (along_all _) $$ HxY
    · iapply (along_all _) $$ HxL
  isplitl [Hys Hxs Hrb Hlb HoF HoL Hxr HrY HrL HzST HzLO]
  · isplitl [Hys]; · iapply (along_all _) $$ Hys
    isplitl [Hxs]; · iapply (along_all _) $$ Hxs
    isplitl [Hrb]; · iapply (along_all _) $$ Hrb
    isplitl [Hlb]; · iapply (along_all _) $$ Hlb
    isplitl [HoF]; · iapply (along_all _) $$ HoF
    isplitl [HoL]; · iapply (along_all _) $$ HoL
    isplitl [Hxr]; · iapply (along_all _) $$ Hxr
    isplitl [HrY]; · iapply (ring4Y_last X c) $$ HrY
    isplitl [HrL]; · iapply (ring4L_last X c) $$ HrL
    isplitl [HzST]; · iapply (along_all _) $$ HzST
    iapply (along_all _) $$ HzLO
  isplitl [HzB]; · iexact HzB
  isplitl [HzYS]; · iapply (along_all _) $$ HzYS
  isplitl [HzYR]; · iapply (along_all _) $$ HzYR
  isplitl [HzXS]; · iapply (along_all _) $$ HzXS
  iapply (along_all _) $$ HzXR

end Cert.AllToAll
-- ==== Proof.Pieces.lean ====
/-
# Buffers cut into chunks and put together again

A buffer held whole is the chunks it is cut into, each held on its own: the argument, the result, the two rings of
slots, and the three stacks.
-/
module

public import proofs.«01_k».proof.Proof.Device

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cutting by a label on the elements -/

section Cut
variable {T : Type} [Fintype T] [DecidableEq T] {ℓ : Loc nD τ sig} (lab : Idx ℓ → T)

/-- The elements with the label `t`. -/
abbrev labelled (t : T) : Finset (Idx ℓ) := Finset.univ.filter fun i => lab i = t

theorem labelled_disjoint : ∀ t ∈ (Finset.univ : Finset T), ∀ t' ∈ (Finset.univ : Finset T), t ≠ t' →
    Disjoint (labelled lab t) (labelled lab t') := fun t _ t' _ h =>
  Finset.disjoint_filter.mpr fun i _ h1 h2 => h (h1.symm.trans h2)

theorem labelled_all : (Finset.univ : Finset T).biUnion (labelled lab) = Finset.univ := by
  ext i
  exact ⟨fun _ => Finset.mem_univ _, fun _ =>
    Finset.mem_biUnion.mpr ⟨lab i, Finset.mem_univ _, Finset.mem_filter.mpr ⟨Finset.mem_univ _, rfl⟩⟩⟩

omit [FloatOps F] in
/-- A buffer held whole is its labelled parts. -/
theorem cut (q : PosShare TreeShare) (f : Buf (Elt F) ℓ) :
    (ℓ ↦{q} f : sProp 𝕄) = bigSep Finset.univ fun t => ℓ ↦[labelled lab t]{q} f := by
  rw [← pointsTo_biUnion Finset.univ (labelled lab) (labelled_disjoint lab), labelled_all]

/-- Labelled parts at contents of their own are the buffer at some contents. -/
theorem join (q : PosShare TreeShare) :
    bigSep Finset.univ (fun t => iprop(∃ f : Buf (Elt F) ℓ, ℓ ↦[labelled lab t]{q} f))
      ⊢ (iprop(∃ f : Buf (Elt F) ℓ, ℓ ↦{q} f) : sProp 𝕄) := by
  iintro H
  haveI : Nonempty (Buf (Elt F) ℓ) := ⟨fun _ => Classical.choice inferInstance⟩
  ihave H := (BI.bigSep_exists_pi Finset.univ (fun (t : T) (f : Buf (Elt F) ℓ) => (ℓ ↦[labelled lab t]{q} f : sProp 𝕄))) $$ H
  icases H with ⟨%fs, H⟩
  ihave H := (pointsTo_biUnion_join Finset.univ (labelled lab) fs (Classical.choice inferInstance) (labelled_disjoint lab)) $$ H
  icases H with ⟨%g, -, H⟩
  iexists g
  rw [labelled_all]
  iexact H

omit [FloatOps F] in
theorem cut_any (q : PosShare TreeShare) :
    iprop(∃ f : Buf (Elt F) ℓ, ℓ ↦{q} f)
      ⊢ (bigSep Finset.univ (fun t => iprop(∃ f : Buf (Elt F) ℓ, ℓ ↦[labelled lab t]{q} f)) : sProp 𝕄) := by
  iintro ⟨%f, H⟩
  ihave H := (Entails.of_eq (cut lab q f)) $$ H
  have h (t : T) : (ℓ ↦[labelled lab t]{q} f : sProp 𝕄) ⊢ iprop(∃ f : Buf (Elt F) ℓ, ℓ ↦[labelled lab t]{q} f) := by
    iintro H; iexists f; iexact H
  ihave H := (show (bigSep Finset.univ fun t => (ℓ ↦[labelled lab t]{q} f : sProp 𝕄)) ⊢ bigSep Finset.univ fun t => iprop(∃ f : Buf (Elt F) ℓ, ℓ ↦[labelled lab t]{q} f) from
    bigSep_mono fun t _ => h t) $$ H
  iexact H
end Cut

omit [FloatOps F] in
theorem bigSep_three (Φ : Fin 3 × Fin 16 → sProp 𝕄) :
    bigSep Finset.univ Φ = iprop(each (fun j => Φ (0, j)) ∗ each (fun j => Φ (1, j)) ∗ each (fun j => Φ (2, j))) := by
  rw [bigSep_univ_prod]
  exact bigSep_univ_eq_bigSepL [0, 1, 2] (by decide) (by decide) _

/-! ## The buffers of one device -/

section Buffers
variable (X : Dev nD → S8192x2048.Idx → F .f32) (c : Dev nD)

/-- A chunk is the elements of its buffer with the chunk's label. -/
abbrev part (b : Ref sig .tc) (q : PosShare TreeShare) (f : Buf (Elt F) ((c : Thread nD τ).loc b))
    (S : Finset (Idx ((c : Thread nD τ).loc b))) : sProp 𝕄 := (c : Thread nD τ).loc b ↦[S]{q} f
abbrev anyPart (b : Ref sig .tc) (S : Finset (Idx ((c : Thread nD τ).loc b))) : sProp 𝕄 :=
  iprop(∃ f : Buf (Elt F) ((c : Thread nD τ).loc b), part c b fullShare f S)

/-- A buffer held whole at some contents. -/
abbrev anyBuf (b : Ref sig .tc) : sProp 𝕄 :=
  iprop(∃ f : Buf (Elt F) ((c : Thread nD τ).loc b), (c : Thread nD τ).loc b ↦{fullShare} f)

theorem buf_fy : anyBuf (F := F) c cc0_scratch0 ⊣⊢ bigSep Finset.univ fun j : Fin 4 => anyPts c (fy j) := by
  rw [show (fun j => anyPts (F := F) c (fy j)) = fun j => anyPart c cc0_scratch0 _ from
    funext fun j => congrArg (anyPart c cc0_scratch0) (set_fy j)]
  exact ⟨cut_any (ℓ := (c : Thread nD τ).loc cc0_scratch0) (fun i : S4x256x1024.Idx => pieceOf i) fullShare,
    join (ℓ := (c : Thread nD τ).loc cc0_scratch0) (fun i : S4x256x1024.Idx => pieceOf i) fullShare⟩
theorem buf_fl : anyBuf (F := F) c cc0_scratch1 ⊣⊢ bigSep Finset.univ fun j : Fin 4 => anyPts c (fl j) := by
  rw [show (fun j => anyPts (F := F) c (fl j)) = fun j => anyPart c cc0_scratch1 _ from
    funext fun j => congrArg (anyPart c cc0_scratch1) (set_fl j)]
  exact ⟨cut_any (ℓ := (c : Thread nD τ).loc cc0_scratch1) (fun i : S4x512x1024.Idx => pieceOf i) fullShare,
    join (ℓ := (c : Thread nD τ).loc cc0_scratch1) (fun i : S4x512x1024.Idx => pieceOf i) fullShare⟩
omit [FloatOps F] in
theorem buf_yb : anyBuf (F := F) c cc0_scratch2 ⊢ each fun j => anyPts c (yb j) := by
  rw [show (fun j => anyPts (F := F) c (yb j)) = fun j => anyPart c cc0_scratch2 _ from
    funext fun j => congrArg (anyPart c cc0_scratch2) (set_yb j)]
  exact cut_any (ℓ := (c : Thread nD τ).loc cc0_scratch2) (fun i : S16x256x1024.Idx => pieceOf i) fullShare
omit [FloatOps F] in
theorem buf_rb : anyBuf (F := F) c cc0_scratch3 ⊢ each fun j => anyPts c (rb j) := by
  rw [show (fun j => anyPts (F := F) c (rb j)) = fun j => anyPart c cc0_scratch3 _ from
    funext fun j => congrArg (anyPart c cc0_scratch3) (set_rb j)]
  exact cut_any (ℓ := (c : Thread nD τ).loc cc0_scratch3) (fun i : S16x256x1024.Idx => pieceOf i) fullShare
omit [FloatOps F] in
theorem buf_lb : anyBuf (F := F) c cc0_scratch4 ⊢ each fun j => anyPts c (lb j) := by
  rw [show (fun j => anyPts (F := F) c (lb j)) = fun j => anyPart c cc0_scratch4 _ from
    funext fun j => congrArg (anyPart c cc0_scratch4) (set_lb j)]
  exact cut_any (ℓ := (c : Thread nD τ).loc cc0_scratch4) (fun i : S16x512x1024.Idx => pieceOf i) fullShare

theorem yb_buf : each (ysPay X c) ⊢ anyBuf c cc0_scratch2 := by
  show each (fun j => pts c (yb j) fullShare (YB X c)) ⊢ _
  rw [show (fun j => pts c (yb j) fullShare (YB X c)) = fun j => part c cc0_scratch2 fullShare (YB X c) _ from
    funext fun j => congrArg (part c cc0_scratch2 fullShare (YB X c)) (set_yb j)]
  iintro H
  iexists YB X c
  iapply (Entails.of_eq (cut (ℓ := (c : Thread nD τ).loc cc0_scratch2) (fun i : S16x256x1024.Idx => pieceOf i) fullShare (YB X c)).symm)
  iexact H
theorem rb_buf : iprop(each (xsPay X c) ∗ each (fun j => pts c (rb j) qR (RB X c))) ⊢ anyBuf c cc0_scratch3 := by
  unfold xsPay
  rw [← bigSep_sep']
  refine (bigSep_mono fun j _ => show _ ⊢ pts c (rb j) fullShare (RB X c) from
    (pointsTo_share (PosShare.mem_left_op_right _)).2).trans ?_
  show each (fun j => pts c (rb j) fullShare (RB X c)) ⊢ _
  rw [show (fun j => pts c (rb j) fullShare (RB X c)) = fun j => part c cc0_scratch3 fullShare (RB X c) _ from
    funext fun j => congrArg (part c cc0_scratch3 fullShare (RB X c)) (set_rb j)]
  iintro H
  iexists RB X c
  iapply (Entails.of_eq (cut (ℓ := (c : Thread nD τ).loc cc0_scratch3) (fun i : S16x256x1024.Idx => pieceOf i) fullShare (RB X c)).symm)
  iexact H
theorem lb_buf : each (lbPts X c) ⊢ anyBuf c cc0_scratch4 := by
  show each (fun j => pts c (lb j) fullShare (LB X c)) ⊢ _
  rw [show (fun j => pts c (lb j) fullShare (LB X c)) = fun j => part c cc0_scratch4 fullShare (LB X c) _ from
    funext fun j => congrArg (part c cc0_scratch4 fullShare (LB X c)) (set_lb j)]
  iintro H
  iexists LB X c
  iapply (Entails.of_eq (cut (ℓ := (c : Thread nD τ).loc cc0_scratch4) (fun i : S16x512x1024.Idx => pieceOf i) fullShare (LB X c)).symm)
  iexact H

/-- The rows of the argument that the device does not read. -/
def xRest : sProp 𝕄 :=
  each fun j => (c : Thread nD τ).loc main_arg0 ↦[labelled (pieceX c) (2, j)]{fullShare} X c

/-- The argument is the chunks the device keeps, the chunks it sends, and the rows it does not read. -/
theorem buf_x : ((c : Thread nD τ).loc main_arg0 ↦{fullShare} X c : sProp 𝕄)
    = iprop(each (xLp X c) ∗ each (xYp X c) ∗ xRest X c) := by
  refine (cut (ℓ := (c : Thread nD τ).loc main_arg0) (pieceX c) fullShare (X c)).trans ?_
  rw [bigSep_three]
  refine congrArg₂ (fun A B => iprop(A ∗ B)) (bigSep_congr fun j _ => ?_)
    (congrArg₂ (fun A B => iprop(A ∗ B)) (bigSep_congr fun j _ => ?_) rfl)
  · exact congrArg (part c main_arg0 fullShare (X c)) (set_xL c j).symm
  · exact congrArg (part c main_arg0 fullShare (X c)) (set_xY c j).symm

/-- The result at some contents is its chunks at some contents. -/
theorem buf_out (f : S16384x1024.Idx → F .bf16) : ((c : Thread nD τ).loc main_v1 ↦{fullShare} f : sProp 𝕄)
    ⊢ iprop(each (fun j => anyPts c (oL c j)) ∗ each (fun j => anyPts c (oF c j)) ∗ each (fun j => anyPts c (oX c j))) := by
  iintro H
  ihave H := (cut_any (F := F) (ℓ := (c : Thread nD τ).loc main_v1) (pieceO c) fullShare) $$ [H]
  · iexists f; iexact H
  ihave H := (Entails.of_eq (bigSep_three _)) $$ H
  rw [show (fun j => anyPts (F := F) c (oL c j)) = fun j => anyPart c main_v1 _ from
      funext fun j => congrArg (anyPart c main_v1) (set_oL c j),
    show (fun j => anyPts (F := F) c (oF c j)) = fun j => anyPart c main_v1 _ from
      funext fun j => congrArg (anyPart c main_v1) (set_oF c j),
    show (fun j => anyPts (F := F) c (oX c j)) = fun j => anyPart c main_v1 _ from
      funext fun j => congrArg (anyPart c main_v1) (set_oX c j)]
  iexact H

/-- The chunks of the result at their final values are the result at its final value. -/
theorem out_buf : iprop(each (fun j => pts c (oL c j) fullShare (OUT X c)) ∗ each (fun j => pts c (oF c j) fullShare (OUT X c))
      ∗ each (xrPay X c)) ⊢ ((c : Thread nD τ).loc main_v1 ↦{fullShare} OUT X c : sProp 𝕄) := by
  refine Entails.of_eq (Eq.symm ((cut (ℓ := (c : Thread nD τ).loc main_v1) (pieceO c) fullShare (OUT X c)).trans ?_))
  rw [bigSep_three]
  refine congrArg₂ (fun A B => iprop(A ∗ B)) (bigSep_congr fun j _ => ?_)
    (congrArg₂ (fun A B => iprop(A ∗ B)) (bigSep_congr fun j _ => ?_) (bigSep_congr fun j _ => ?_))
  · exact congrArg (part c main_v1 fullShare (OUT X c)) (set_oL c j).symm
  · exact congrArg (part c main_v1 fullShare (OUT X c)) (set_oF c j).symm
  · exact congrArg (part c main_v1 fullShare (OUT X c)) (set_oX c j).symm
end Buffers

end Cert.AllToAll

end
-- ==== Proof.Deal.lean ====
/-
# Dealing out the launch

The launch hands over the semaphores at zero, the tokens of the schedule, and the credit for what will be sent. Here
they are dealt to the devices: every semaphore another device signals gets its invariant, every token goes to the
device that pays, and the rest stays where it is.
-/
module

public import proofs.«01_k».proof.Proof.Pieces

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Cfg)

variable {F : FTy → Type} [FloatOps F]

local notation "𝕄" => MT nD τ sig Unit (Elt F) ℕ UU ℕ

/-! ## The semaphores of the kernel -/

/-- Four prefetch semaphores for each ring of slots, and sixteen semaphores for each of the six sorts of copy. -/
abbrev OI := (Fin 2 × Fin 4) ⊕ (Fin 6 × Fin 16)
def ring4 (f : Fin 2) (j : Fin 4) : DmaSem sig := match f with | ⟨0, _⟩ => sYP j | ⟨1, _⟩ => sLP j
def six (f : Fin 6) (k : Fin 16) : DmaSem sig := match f with
  | ⟨0, _⟩ => sYS k | ⟨1, _⟩ => sYR k | ⟨2, _⟩ => sXS k | ⟨3, _⟩ => sXR k | ⟨4, _⟩ => sST k | ⟨5, _⟩ => sLO k
def osem : OI → SemLoc sig := Sum.elim (fun p => .dma (ring4 p.1 p.2)) (fun p => .dma (six p.1 p.2))

theorem ring4_val (f : Fin 2) (j : Fin 4) : (ring4 f j).val = 84 * f.val + j.val := by revert f j; decide +kernel
theorem six_val (f : Fin 6) (k : Fin 16) : (six f k).val = (if f.val = 5 then 88 else 4 + 16 * f.val) + k.val := by
  revert f k; decide +kernel

theorem osem_inj : Function.Injective osem := by
  intro a b h
  have hv (p : Fin 2 × Fin 4) (q : Fin 6 × Fin 16) : ring4 p.1 p.2 ≠ six q.1 q.2 := fun e => by
    have h1 := congrArg Fin.val e
    rw [ring4_val, six_val] at h1
    have := p.1.isLt; have := p.2.isLt; have := q.1.isLt; have := q.2.isLt
    have h0 : p.1.val = 0 ∨ p.1.val = 1 := by omega
    rcases h0 with h0 | h0 <;> rw [h0] at h1 <;> split at h1 <;> omega
  rcases a with p | p <;> rcases b with q | q
  · have h1 := congrArg Fin.val (SemLoc.dma.inj h)
    rw [ring4_val, ring4_val] at h1
    have := p.1.isLt; have := p.2.isLt; have := q.1.isLt; have := q.2.isLt
    exact congrArg Sum.inl (Prod.ext (Fin.ext (by omega)) (Fin.ext (by omega)))
  · exact absurd (SemLoc.dma.inj h) (hv p q)
  · exact absurd (SemLoc.dma.inj h).symm (hv q p)
  · have h1 := congrArg Fin.val (SemLoc.dma.inj h)
    rw [six_val, six_val] at h1
    have := p.1.isLt; have := p.2.isLt; have := q.1.isLt; have := q.2.isLt
    have hf : p.1.val = q.1.val ∧ p.2.val = q.2.val := by
      split at h1 <;> split at h1 <;> constructor <;> omega
    exact congrArg Sum.inr (Prod.ext (Fin.ext hf.1) (Fin.ext hf.2))

theorem osem_scoped : ∀ k, (osem k).isScoped .tc = true := by decide +kernel
theorem ownSemFacts : Pipeline.OwnSemFacts cfg0.spec osem :=
  ⟨osem_scoped, osem_inj, fun k w => w.elim0⟩

section Sems
variable (c : Dev nD)
omit [FloatOps F]

/-- The semaphores no other device signals, at zero. -/
def local0 : sProp 𝕄 :=
  iprop((bigSep Finset.univ fun j : Fin 4 => zero c (sYP j)) ∗ (bigSep Finset.univ fun j : Fin 4 => zero c (sLP j))
    ∗ each (fun j => zero c (sST j)) ∗ each (fun j => zero c (sLO j)))

theorem bigSep_two (Φ : Fin 2 → sProp 𝕄) : bigSep Finset.univ Φ = iprop(Φ 0 ∗ Φ 1) :=
  bigSep_univ_eq_bigSepL [0, 1] (by decide) (by decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem ownSems0_eq : (Pipeline.ownSems0 (Ix := Unit) (Name := ℕ) (U := UU) (Lvl := ℕ) (Val := Elt F) (τ := τ) osem c : sProp 𝕄)
    = iprop(((bigSep Finset.univ fun j : Fin 4 => zero c (sYP j)) ∗ (bigSep Finset.univ fun j : Fin 4 => zero c (sLP j)))
      ∗ each (fun j => zero c (sYS j)) ∗ each (fun j => zero c (sYR j)) ∗ each (fun j => zero c (sXS j))
      ∗ each (fun j => zero c (sXR j)) ∗ each (fun j => zero c (sST j)) ∗ each (fun j => zero c (sLO j))) := by
  unfold Pipeline.ownSems0
  rw [bigSep_univ_sum, bigSep_univ_prod, bigSep_univ_prod, bigSep_two, bigSep_six]
  rfl

theorem unscopedSems0_eq : (unscopedSems0 c : sProp 𝕄) = semVal (barCell c) 0 := by
  unfold unscopedSems0; rw [bigSep_eq_bigSepL_of_eq [SemLoc.reg sBar] (by decide) (by decide)]; rfl

theorem bigSep_CI (Φ : CI → sProp 𝕄) : bigSep Finset.univ Φ
    = iprop(Φ none ∗ each (fun k => Φ (some (0, k))) ∗ each (fun k => Φ (some (1, k))) ∗ each (fun k => Φ (some (2, k)))
      ∗ each (fun k => Φ (some (3, k)))) := by
  rw [bigSep_univ_equiv ((Equiv.sumComm Unit (Fin 4 × Fin 16)).trans (Equiv.optionEquivSumPUnit (Fin 4 × Fin 16)).symm) Φ,
    bigSep_univ_sum, bigSep_univ_prod, bigSep_univ_of_subsingleton (), bigSep_four]
  rfl

theorem sems0 :
    iprop(Pipeline.ownSems0 (Ix := Unit) (Name := ℕ) (U := UU) (Lvl := ℕ) (Val := Elt F) (τ := τ) osem c ∗ unscopedSems0 c)
      ⊢ iprop((bigSep Finset.univ fun k : CI => (semVal (kcell (c, k)) 0 : sProp 𝕄)) ∗ local0 c) := by
  rw [ownSems0_eq, unscopedSems0_eq, bigSep_CI]
  unfold local0
  iintro ⟨⟨⟨H1, H2⟩, HA, HB, HC, HD, H3, H4⟩, Hbar⟩
  isplitl [HA HB HC HD Hbar]
  · isplitl [Hbar]; · iexact Hbar
    isplitl [HA]; · iexact HA
    isplitl [HB]; · iexact HB
    isplitl [HC]; · iexact HC
    iexact HD
  isplitl [H1]; · iexact H1
  isplitl [H2]; · iexact H2
  isplitl [H3] <;> iassumption
end Sems

/-! ## Cells and tokens -/

theorem csem_inj : Function.Injective csem := by
  intro a b h
  rcases a with _ | a <;> rcases b with _ | b
  · rfl
  · exact absurd h.symm (fam_ne_bar b.1 b.2)
  · exact absurd h (fam_ne_bar a.1 a.2)
  · obtain ⟨h1, h2⟩ := fam_inj h
    exact congrArg some (Prod.ext h1 h2)
theorem kcell_inj : Function.Injective (kcell : Dev nD × CI → GSem nD τ sig) := by
  rintro ⟨c, k⟩ ⟨c', k'⟩ h
  exact Prod.ext (congrArg (fun g : GSem nD τ sig => g.1.1) h) (csem_inj (congrArg Prod.snd h))
def kcells : Finset (GSem nD τ sig) := Finset.univ.map ⟨kcell, kcell_inj⟩

/-- The duties of a device's own cells: two at its barrier, one at each semaphore of each family. -/
abbrev TI := Bool ⊕ (Fin 4 × Fin 16)
def tokOf (ct : Dev nD × TI) : GSem nD τ sig × ℕ × Bool :=
  Sum.elim (fun b => (barCell ct.1, 0, b)) (fun fk => (cell ct.1 fk.1 fk.2, 0, false)) ct.2
theorem tokOf_inj : Function.Injective (tokOf : Dev nD × TI → GSem nD τ sig × ℕ × Bool) := by
  rintro ⟨c, t⟩ ⟨c', t'⟩ h
  have hg := congrArg Prod.fst h
  have hb := congrArg (fun x : GSem nD τ sig × ℕ × Bool => x.2.2) h
  rcases t with t | t <;> rcases t' with t' | t'
  · exact Prod.ext (congrArg (fun g : GSem nD τ sig => g.1.1) hg) (congrArg Sum.inl hb)
  · exact absurd (congrArg Prod.snd hg).symm (fam_ne_bar t'.1 t'.2)
  · exact absurd (congrArg Prod.snd hg) (fam_ne_bar t.1 t.2)
  · obtain ⟨h1, h2⟩ := fam_inj (congrArg Prod.snd hg)
    exact Prod.ext (congrArg (fun g : GSem nD τ sig => g.1.1) hg) (congrArg Sum.inr (Prod.ext h1 h2))
def ktoks : Finset (GSem nD τ sig × ℕ × Bool) := Finset.univ.map ⟨tokOf, tokOf_inj⟩

def u₀ : UU := (initOf (Pipeline.cells cfgs cellOf_inj) (Pipeline.launchToks cfgs cellOf_inj), (initOf kcells ktoks, 1))

omit [FloatOps F] in
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

section Deal
variable (X : Dev nD → S8192x2048.Idx → F .f32)

/-- The tokens of device `c`'s own cells. -/
def toks (c : Dev nD) : sProp 𝕄 :=
  iprop((dutyTok ER (barCell c) 0 false ∗ dutyTok ER (barCell c) 0 true)
    ∗ each (right c 0) ∗ each (right c 1) ∗ each (right c 2) ∗ each (right c 3))

/-- What the launch deals device `c`. -/
def G (c : Dev nD) : sProp 𝕄 :=
  iprop((bigSep Finset.univ fun k : CI => roundState ER (rd X) (kcell (c, k)) 0)
    ∗ (bigSep Finset.univ fun k : CI => iprop(atPos ER (kcell (c, k)) 0 ∅ 0 ∗ reached ER (kcell (c, k)) 0)) ∗ toks c)

theorem toks_eq (c : Dev nD) :
    (bigSep Finset.univ fun t : TI => (dutyTok ER (tokOf (c, t)).1 (tokOf (c, t)).2.1 (tokOf (c, t)).2.2 : sProp 𝕄)) = toks c := by
  rw [bigSep_univ_sum, bigSep_univ_prod, bigSep_four]
  exact congrArg₂ (fun A B => iprop(A ∗ B)) (bigSep_univ_eq_bigSepL [false, true] (by decide) (by decide) _) rfl

theorem fund : BI.own (ER (initOf kcells ktoks)) ⊢ (|==> bigSep Finset.univ (G X) : sProp 𝕄) := by
  have hX (Φ : GSem nD τ sig → sProp 𝕄) :
      bigSep kcells Φ = bigSep Finset.univ fun c : Dev nD => bigSep Finset.univ fun k : CI => Φ (kcell (c, k)) := by
    unfold kcells; rw [bigSep_map, bigSep_univ_prod]; rfl
  have hT : bigSep ktoks (fun x => (dutyTok ER x.1 x.2.1 x.2.2 : sProp 𝕄)) = bigSep Finset.univ fun c : Dev nD => toks c := by
    unfold ktoks; rw [bigSep_map, bigSep_univ_prod]
    exact bigSep_congr fun c _ => toks_eq c
  iintro H
  imod (Rounds.fund ER (rd X) kcells ktoks) $$ H with ⟨Hst, Hr, Hat, Htok⟩
  imodintro
  ihave Hst := (Entails.of_eq (hX fun g => roundState ER (rd X) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The records without the levels. -/
def ghosts (K : Dev nD × CI → ℕ) : sProp 𝕄 :=
  iprop((bigSep Finset.univ fun ck : Dev nD × CI => cellInv ER (rd X) (K ck) (kcell ck))
    ∗ bigSep Finset.univ fun ck : Dev nD × CI => reached ER (kcell ck) 0)
instance ghosts_persistent (K : Dev nD × CI → ℕ) : BI.Persistent (ghosts X K) := by unfold ghosts; infer_instance

/-- What device `c` holds once all is dealt. -/
def G' (c : Dev nD) : sProp 𝕄 := iprop((∃ K, ghosts X K) ∗ freshAll c ∗ rights c ∗ local0 c)

theorem alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv ER (rd X) κ (kcell (c, k))))
          ∗ (bigSep Finset.univ fun k => iprop(atPos ER (kcell (c, k)) 0 ∅ 0 ∗ reached ER (kcell (c, k)) 0)) ∗ toks c ∗ local0 c) := by
  unfold G
  iintro ⟨Hos, Hus, Hst, Hat, Htok⟩
  ihave H := (sems0 (F := F) c) $$ [Hos Hus]
  · isplitl [Hos] <;> iassumption
  icases H with ⟨Hv, Hl⟩
  imod (show iprop((bigSep Finset.univ fun k : CI => semVal (kcell (c, k)) 0) ∗ bigSep Finset.univ fun k : CI => roundState ER (rd X) (kcell (c, k)) 0)
      ⊢ (|={Set.univ}=> bigSep Finset.univ fun k => iprop(∃ κ : ℕ, cellInv ER (rd X) κ (kcell (c, k))) : sProp 𝕄) from by
        rw [← bigSep_sep']
        exact (bigSep_mono fun k _ => (Rounds.body_intro ER (rd X) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

def alongRow : Dev nD ≃ Dev nD := ⟨ynb, ynb, ynb_ynb, ynb_ynb⟩
def alongColumn : Dev nD ≃ Dev nD := ⟨xnb, xnb, xnb_xnb, xnb_xnb⟩

/-- Every token goes to the device that pays: within the row, within the column, or nowhere. -/
theorem toks_around : (bigSep Finset.univ fun c : Dev nD => (toks c : sProp 𝕄)) ⊢ bigSep Finset.univ fun c : Dev nD => rights c := by
  unfold toks rights
  simp only [bigSep_sep']
  rw [bigSep_univ_equiv alongRow (fun c : Dev nD => (dutyTok ER (barCell c) 0 false : sProp 𝕄)),
    bigSep_univ_equiv alongColumn (fun c : Dev nD => (dutyTok ER (barCell c) 0 true : sProp 𝕄)),
    bigSep_univ_equiv alongRow (fun c : Dev nD => (each (right c 1) : sProp 𝕄)),
    bigSep_univ_equiv alongColumn (fun c : Dev nD => (each (right c 3) : sProp 𝕄))]
  exact Entails.refl _

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd X) κ (kcell (c, k))))
          ∗ (bigSep Finset.univ fun k => iprop(atPos ER (kcell (c, k)) 0 ∅ 0 ∗ reached ER (kcell (c, k)) 0)) ∗ toks c ∗ local0 c) : sProp 𝕄)
      ⊢ bigSep Finset.univ (G' X) := by
  simp only [bigSep_sep']
  rw [← bigSep_univ_prod (fun ck : Dev nD × CI => iprop(∃ κ : ℕ, cellInv ER (rd X) κ (kcell ck))),
    ← bigSep_univ_prod (fun ck : Dev nD × CI => (reached ER (kcell ck) 0 : sProp 𝕄))]
  iintro ⟨HI, ⟨Hat, #HR⟩, Htok, Hl⟩
  ihave HK := (BI.bigSep_exists_pi Finset.univ (fun (ck : Dev nD × CI) (κ : ℕ) => (cellInv ER (rd X) κ (kcell ck) : sProp 𝕄))) $$ HI
  icases HK with ⟨%K, #HI⟩
  ihave Htok := (toks_around (F := F)) $$ Htok
  iapply (with_records (R := ghosts X K) (Φ := fun c => iprop(freshAll c ∗ rights c ∗ local0 c)) (Ψ := G' X) fun c _ => by
    unfold G'
    iintro ⟨#HG, H⟩
    isplitr; · iexists K; iexact HG
    iexact H)
  isplitr
  · unfold ghosts; isplitl; · iexact HI
    iexact HR
  simp only [bigSep_sep']
  isplitl [Hat]
  · ihave Hat := (Entails.of_eq (show (bigSep Finset.univ fun c : Dev nD => bigSep Finset.univ fun k : CI => (atPos ER (kcell (c, k)) 0 ∅ 0 : sProp 𝕄))
        = bigSep Finset.univ fun c : Dev nD => freshAll c from bigSep_congr fun c _ => bigSep_CI _)) $$ Hat
    iexact Hat
  isplitl [Htok] <;> iassumption

/-- All the semaphores of all the devices, at once. -/
theorem deal : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => alloc X c).trans (bigSep_fupd _ _)).trans (BI.fupd_mono (regroup X))
end Deal

/-! ## The credit of the launch -/

theorem bar_iff {a b : Dev nD} : (barCell a = barCell b) ↔ a = b :=
  ⟨fun h => congrArg (fun g : GSem nD τ sig => g.1.1) h, fun h => h ▸ rfl⟩
theorem cell_iff {a b : Dev nD} {f f' : Fin 4} {k k' : Fin 16} : (cell a f k = cell b f' k') ↔ a = b ∧ f = f' ∧ k = k' :=
  ⟨fun h => ⟨congrArg (fun g : GSem nD τ sig => g.1.1) h, fam_inj (congrArg Prod.snd h)⟩, by rintro ⟨rfl, rfl, rfl⟩; rfl⟩
theorem cell_ne_bar (a b : Dev nD) (f : Fin 4) (k : Fin 16) : cell a f k ≠ barCell b := fun h =>
  fam_ne_bar f k (congrArg Prod.snd h)
theorem ynb_iff {a b : Dev nD} : ynb a = b ↔ a = ynb b := ⟨fun h => by rw [← h, ynb_ynb], fun h => by rw [h, ynb_ynb]⟩
theorem xnb_iff {a b : Dev nD} : xnb a = b ↔ a = xnb b := ⟨fun h => by rw [← h, xnb_xnb], fun h => by rw [h, xnb_xnb]⟩

theorem sum_at (a : Dev nD) (f : Fin 4) (g : GSem nD τ sig) (u : Unit) :
    (∑ k ∈ Finset.univ.filter fun k : Fin 16 => 0 ≤ k.val, (tallyAt (cell a f k) () N : CellTallies nD τ sig Unit)) g u
      = ∑ k : Fin 16, if g = cell a f k then N else 0 := by
  rw [from_first, Finset.sum_apply, Finsupp.finset_sum_apply]
  exact Finset.sum_congr rfl fun k _ => by rw [tallyAt_apply]; simp
theorem sum_bar (a c : Dev nD) (f : Fin 4) :
    (∑ k ∈ Finset.univ.filter fun k : Fin 16 => 0 ≤ k.val, (tallyAt (cell a f k) () N : CellTallies nD τ sig Unit)) (barCell c) () = 0 := by
  rw [sum_at]
  exact Finset.sum_eq_zero fun k _ => if_neg fun h => cell_ne_bar _ _ _ _ h.symm
theorem sum_cell (a c : Dev nD) (f f' : Fin 4) (k : Fin 16) :
    (∑ k ∈ Finset.univ.filter fun k : Fin 16 => 0 ≤ k.val, (tallyAt (cell a f k) () N : CellTallies nD τ sig Unit)) (cell c f' k) ()
      = if a = c ∧ f = f' then N else 0 := by
  rw [sum_at]
  by_cases h : a = c ∧ f = f'
  · obtain ⟨rfl, rfl⟩ := h
    rw [if_pos ⟨rfl, rfl⟩, Finset.sum_eq_single k]
    · exact if_pos rfl
    · exact fun k' _ hk => if_neg fun e => hk (cell_iff.mp e).2.2.symm
    · exact fun h => absurd (Finset.mem_univ k) h
  · rw [if_neg h]
    exact Finset.sum_eq_zero fun k' _ => if_neg fun e => h ⟨(cell_iff.mp e).1.symm, (cell_iff.mp e).2.1.symm⟩

theorem owed_bar (d c : Dev nD) : O₀ d (barCell c) () = (if d = xnb c then 1 else 0) + (if d = ynb c then 1 else 0) := by
  unfold O₀ oweX oweY
  simp only [Pi.add_apply, Finsupp.add_apply]
  rw [sum_bar, sum_bar, tallyAt_apply, tallyAt_apply]
  simp only [Nat.zero_add, bar_iff, and_true]
  congr 1
  · exact if_congr (by rw [eq_comm, xnb_iff]) rfl rfl
  · exact if_congr (by rw [eq_comm, ynb_iff]) rfl rfl
theorem owed_row (d c : Dev nD) (k : Fin 16) : O₀ d (cell c 1 k) () = if d = ynb c then N else 0 := by
  unfold O₀ oweX oweY
  simp only [Pi.add_apply, Finsupp.add_apply]
  rw [sum_cell, sum_cell, tallyAt_ne_cell (cell_ne_bar _ _ _ _), tallyAt_ne_cell (cell_ne_bar _ _ _ _),
    if_neg (fun h => absurd h.2 (by decide))]
  simp only [Finsupp.zero_apply, Nat.zero_add, Nat.add_zero, and_true]
  exact if_congr ynb_iff rfl rfl
theorem owed_column (d c : Dev nD) (k : Fin 16) : O₀ d (cell c 3 k) () = if d = xnb c then N else 0 := by
  unfold O₀ oweX oweY
  simp only [Pi.add_apply, Finsupp.add_apply]
  rw [sum_cell, sum_cell, tallyAt_ne_cell (cell_ne_bar _ _ _ _), tallyAt_ne_cell (cell_ne_bar _ _ _ _),
    if_neg (c := ynb d = c ∧ (1 : Fin 4) = 3) (fun h => absurd h.2 (by decide))]
  simp only [Finsupp.zero_apply, Nat.zero_add, Nat.add_zero, and_true]
  exact if_congr xnb_iff rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xnb c) fun _ => 1, Finset.sum_ite_eq' Finset.univ (ynb c) fun _ => 1,
    if_pos (Finset.mem_univ _), if_pos (Finset.mem_univ _)]
theorem launch_row (c : Dev nD) (k : Fin 16) :
    tallyOn (cell c 1 k) (launchCredit (Pipeline.owing O₀) 0 (cell c 1 k)) = (tallyAt (cell c 1 k) () N : CellTallies nD τ sig Unit) := by
  unfold tallyAt; refine congrArg _ (Finsupp.ext fun u => ?_); cases u
  rw [Pipeline.launchCredit_owing, Finsupp.single_eq_same, Finset.sum_congr rfl fun d _ => owed_row d c k,
    Finset.sum_ite_eq' Finset.univ (ynb c) fun _ => N, if_pos (Finset.mem_univ _)]
theorem launch_column (c : Dev nD) (k : Fin 16) :
    tallyOn (cell c 3 k) (launchCredit (Pipeline.owing O₀) 0 (cell c 3 k)) = (tallyAt (cell c 3 k) () N : CellTallies nD τ sig Unit) := by
  unfold tallyAt; refine congrArg _ (Finsupp.ext fun u => ?_); cases u
  rw [Pipeline.launchCredit_owing, Finsupp.single_eq_same, Finset.sum_congr rfl fun d _ => owed_column d c k,
    Finset.sum_ite_eq' Finset.univ (xnb c) fun _ => N, if_pos (Finset.mem_univ _)]

theorem creds (c : Dev nD) : (Pipeline.launchCred O₀ c : sProp 𝕄) ⊢ duesBefore c := by
  unfold Pipeline.launchCred duesBefore
  have h (Φ : SemLoc sig → sProp 𝕄) : bigSep Finset.univ Φ ⊢ bigSep (Finset.univ.map ⟨csem, csem_inj⟩) Φ :=
    bigSep_subset (Finset.subset_univ _)
  iintro H
  ihave H := (h _) $$ H
  ihave H := (Entails.of_eq (bigSep_map _)) $$ H
  ihave H := (Entails.of_eq (bigSep_CI _)) $$ H
  icases H with ⟨Hb, -, H1, -, H3⟩
  isplitl [Hb]
  · rw [← launch_bar]; iexact Hb
  isplitl [H1]
  · rw [show (due (F := F) c 1) = fun k => cred (tallyOn (cell c 1 k) (launchCredit (Pipeline.owing O₀) 0 (cell c 1 k))) from
      funext fun k => by unfold due; rw [launch_row]]
    iexact H1
  · rw [show (due (F := F) c 3) = fun k => cred (tallyOn (cell c 3 k) (launchCredit (Pipeline.owing O₀) 0 (cell c 3 k))) from
      funext fun k => by unfold due; rw [launch_column]]
    iexact H3

end Cert.AllToAll

end
-- ==== Proof.Run.lean ====
/-
# The run of the all-to-all kernel

The launch of the four devices, for any float values: every execution ends, with every result array at its final
values, every argument as it was, and every semaphore at zero.
-/
module

public import proofs.«01_k».proof.Proof.Deal
public import Idealize.ShloMosaic.Lib.Pipeline.CollectiveSegs

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Cfg)

variable {F : FTy → Type} [FloatOps F]

local notation "𝕄" => MT nD τ sig Unit (Elt F) ℕ UU ℕ

variable (m : (ℓ : Loc nD τ sig) → Buf (Elt F) ℓ) (ρ : Dev nD → PrngReg)

/-- The arguments the devices hold. -/
def argOf (c : Dev nD) : S8192x2048.Idx → F .f32 := m ((c : Thread nD τ).loc main_arg0)

/-! ## Before and after the one point -/

/-- What device `c` holds besides its scratch buffers when the kernel starts. -/
def start (c : Dev nD) : sProp 𝕄 :=
  iprop((∃ K, records (argOf m) K) ∗ (freshAll c ∗ rights c ∗ local0 c) ∗ duesBefore c
    ∗ ((c : Thread nD τ).loc main_arg0 ↦{fullShare} (argOf m) c)
    ∗ (∃ f : S16384x1024.Idx → F .bf16, (c : Thread nD τ).loc main_v1 ↦{fullShare} f))
/-- The scratch buffers. -/
def scratch (c : Dev nD) : sProp 𝕄 :=
  iprop(anyBuf c cc0_scratch0 ∗ anyBuf c cc0_scratch1 ∗ anyBuf c cc0_scratch2 ∗ anyBuf c cc0_scratch3 ∗ anyBuf c cc0_scratch4)
/-- What it passes on when the kernel ends: the barrier at zero, the argument, and the result. -/
def done (c : Dev nD) : sProp 𝕄 :=
  iprop(semVal (barCell c) 0 ∗ ((c : Thread nD τ).loc main_arg0 ↦{fullShare} (argOf m) c)
    ∗ ((c : Thread nD τ).loc main_v1 ↦{fullShare} OUT (argOf m) c))

def Φ₀ (c : Dev nD) : sProp 𝕄 := iprop(start m c ∗ scratch c)
def Φ₁ (c : Dev nD) : sProp 𝕄 :=
  iprop(done m c ∗ Pipeline.ownSems0 (Ix := Unit) (Name := ℕ) (U := UU) (Lvl := ℕ) (Val := Elt F) (τ := τ) osem c ∗ scratch c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

/-- The chunks, out of the buffers. -/
theorem mem_before (c : Dev nD) :
    iprop(scratch c ∗ local0 c ∗ (∃ f : S16384x1024.Idx → F .bf16, (c : Thread nD τ).loc main_v1 ↦{fullShare} f))
      ⊢ memBefore (F := F) c := by
  unfold scratch local0 memBefore freeY freeL
  rw [bigSep_sep', bigSep_sep']
  iintro ⟨⟨H0, H1, H2, H3, H4⟩, ⟨Z1, Z2, Z3, Z4⟩, %f, Ho⟩
  ihave H0 := (buf_fy (F := F) c).1 $$ H0
  ihave H1 := (buf_fl (F := F) c).1 $$ H1
  ihave H2 := (buf_yb (F := F) c) $$ H2
  ihave H3 := (buf_rb (F := F) c) $$ H3
  ihave H4 := (buf_lb (F := F) c) $$ H4
  ihave Ho := (buf_out c f) $$ Ho
  icases Ho with ⟨HoL, HoF, HoX⟩
  isplitl [H2]; · iexact H2
  isplitl [H3]; · iexact H3
  isplitl [H4]; · iexact H4
  isplitl [HoF]; · iexact HoF
  isplitl [HoL]; · iexact HoL
  isplitl [HoX]; · iexact HoX
  isplitl [H0 Z1]
  · isplitl [H0]; · iexact H0
    iexact Z1
  isplitl [H1 Z2]
  · isplitl [H1]; · iexact H1
    iexact Z2
  isplitl [Z3]; · iexact Z3
  iexact Z4

/-- The buffers, out of the chunks. -/
theorem mem_after (c : Dev nD) :
    iprop((each (xYp (argOf m) c) ∗ each (xLp (argOf m) c)) ∗ xRest (argOf m) c ∗ memAfter (argOf m) c ∗ zeroAll c) ⊢ Φ₁ m c := by
  unfold memAfter zeroAll Φ₁ done scratch freeY freeL
  rw [bigSep_sep', bigSep_sep', ownSems0_eq, buf_x]
  iintro ⟨⟨HxY, HxL⟩, Hxr, ⟨Hys, Hxs, Hrr, Hl, HoF, HoL, HoX, ⟨H0, Z1⟩, ⟨H1, Z2⟩, Z3, Z4⟩, Hb, ZA, ZB, ZC, ZD⟩
  ihave H0 := (buf_fy (F := F) c).2 $$ H0
  ihave H1 := (buf_fl (F := F) c).2 $$ H1
  ihave H2 := (yb_buf (argOf m) c) $$ Hys
  ihave H3 := (rb_buf (argOf m) c) $$ [Hxs Hrr]
  · isplitl [Hxs] <;> iassumption
  ihave H4 := (lb_buf (argOf m) c) $$ Hl
  ihave Ho := (out_buf (argOf m) c) $$ [HoL HoF HoX]
  · isplitl [HoL]; · iexact HoL
    isplitl [HoF] <;> iassumption
  isplitl [Hb HxY HxL Hxr Ho]
  · isplitl [Hb]; · iexact Hb
    isplitl [HxY HxL Hxr]
    · isplitl [HxL]; · iexact HxL
      isplitl [HxY] <;> iassumption
    iexact Ho
  isplitl [Z1 Z2 Z3 Z4 ZA ZB ZC ZD]
  · isplitl [Z1 Z2]
    · isplitl [Z1]; · iexact Z1
      iexact Z2
    isplitl [ZA]; · iexact ZA
    isplitl [ZB]; · iexact ZB
    isplitl [ZC]; · iexact ZC
    isplitl [ZD]; · iexact ZD
    isplitl [Z3]; · iexact Z3
    iexact Z4
  isplitl [H0]; · iexact H0
  isplitl [H1]; · iexact H1
  isplitl [H2]; · iexact H2
  isplitl [H3]; · iexact H3
  iexact H4

/-- The run of one device from what it holds at the start to what it passes on. -/
theorem runs_start (c : Dev nD) (W : Finset (SemLoc sig × Unit)) (Q : PUnit → sProp 𝕄) :
    iprop(Φ₀ m c ∗ owes (c : Thread nD τ) (O₀ c) W)
      ⊢ iprop(((Φ₁ m c ∗ ∃ W, owes (c : Thread nD τ) 0 W) -∗ Q ⟨⟩) -∗ runs c (deviceBody c) Q) := by
  unfold Φ₀ start
  iintro ⟨⟨⟨⟨%K, #HR⟩, ⟨Hf, Hr, Hl⟩, Hd, Hx, Ho⟩, Hs⟩, HO⟩ Hk
  ihave Hx := (Entails.of_eq (buf_x (argOf m) c)) $$ Hx
  icases Hx with ⟨HxL, HxY, Hxr⟩
  ihave Hm := (mem_before (F := F) c) $$ [Hs Hl Ho]
  · isplitl [Hs]; · iexact Hs
    isplitl [Hl] <;> iassumption
  iapply (runs_device (argOf m) K c Q) $$ [HO HxL HxY Hm Hr Hf Hd]
  · isplitl [HO]
    · unfold St
      isplitr; · iexact HR
      iexists W; iexact HO
    isplitl [HxY HxL]
    · isplitl [HxY] <;> iassumption
    isplitl [Hm]; · iexact Hm
    isplitl [Hr]; · iexact Hr
    isplitl [Hf] <;> iassumption
  unfold St
  iintro ⟨⟨-, HO⟩, Hx, Hm, Hz⟩
  iapply Hk
  isplitl [Hx Hm Hz Hxr]
  · iapply (mem_after m c)
    isplitl [Hx]; · iexact Hx
    isplitl [Hxr]; · iexact Hxr
    isplitl [Hm] <;> iassumption
  iexact HO

set_option maxRecDepth 100000 in
theorem body_obligation (c : Dev nD) : BodyObligation (dats (F := F) m 0 c) (defs₀ (F := F)) 𝒱₀ () Set.univ := fun t => by
  rw [fin_N0 t]
  have hW (Φ : Fin cfg0.W → sProp 𝕄) : bigSep Finset.univ Φ = iprop(emp) := by
    rw [show (Finset.univ : Finset (Fin cfg0.W)) = ∅ from rfl, bigSep_empty]; rfl
  rw [hW, hW]
  show iprop(Φ₀ m c ∗ (dats m 0 c).owesAt () t0_0.castSucc ∗ emp)
    ⊢ wp frame (wpE (defs₀ (F := F)) 𝒱₀ c none) Set.univ (bodyAt0 t0_0)
        (fun _ => iprop(Φ₁ m c ∗ (dats m 0 c).owesAt () t0_0.succ ∗ emp))
  rw [body_eq, wp_deviceId]
  unfold Dat.owesAt Pipeline.owesWithin
  iintro ⟨HΦ, ⟨%W, -, HO⟩, -⟩
  iapply (runs_start m c W _) $$ [HΦ HO]
  · isplitl [HΦ]; · iexact HΦ
    iexact HO
  iintro ⟨HΦ, %W', HO⟩
  isplitl [HΦ]; · iexact HΦ
  isplitl [HO]
  · iexists W'
    isplitr; · ipureintro; exact fun _ _ => Or.inl trivial
    iexact HO
  iempintro

/-! ## The launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argOf m) c)
      ⊢ |={Set.univ}=> iprop(start m c ∗ emp) := by
  rw [Pipeline.unscopedRestP_none, unscopedRest0_eq]
  unfold G'
  iintro ⟨⟨Hx, Ho⟩, #Hlev, Hcr, -, ⟨%K, #HG⟩, H⟩
  ihave Hd := (creds (F := F) c) $$ Hcr
  imodintro
  unfold start
  isplitl
  · isplitr
    · iexists K
      unfold records
      unfold ghosts
      icases HG with ⟨#HI, #HR⟩
      isplitr; · iexact HI
      isplitr; · iexact HR
      iexact Hlev
    isplitl [H]; · iexact H
    isplitl [Hd]; · iexact Hd
    isplitl [Hx]; · iexact Hx
    iexists (m ((c : Thread nD τ).loc main_v1)); iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(done m c ∗ Pipeline.ownSems0 osem c ∗ Pipeline.scopedRest cfg0.spec c) := by
  rw [show (dats m 0 c).Φ (Fin.last cfg0.N) = Φ₁ m c from rfl, scopedRest0_eq]
  unfold Φ₁ scratch
  exact Entails.refl _

theorem waits (c : Dev nD) : (levAts L lv : sProp 𝕄) ⊢ Pipeline.cellsWaits cfgs (dats m) () 0 c :=
  Pipeline.cellsWaits_intro cfgs (dats m) () 0 c fun w s t => w.elim0

/-- What the final memory says of device `c`. -/
def Final (c : Dev nD) (s : MemSt nD τ sig (Elt F)) : Prop :=
  s.mem ((c : Thread nD τ).loc main_arg0) = (argOf m) c ∧ s.mem ((c : Thread nD τ).loc main_v1) = OUT (argOf m) c
    ∧ ∀ sm : SemLoc sig, sm.isScoped .tc = false → s.sem ((c.tc : Thread nD τ), sm) = 0

theorem done_read (c : Dev nD) (s' : Phys nD τ sig (Elt F)) :
    iprop(done m c ∗ emp ∗ SI s') ⊢ |={Set.univ}=> iprop(⌜Final m c s'.mem⌝ ∗ SI s') := by
  unfold done
  rw [← unscopedSems0_eq]
  iintro ⟨⟨Hb, Hx, Ho⟩, -, HSI⟩
  icombine HSI Hx gives %hx
  icombine HSI Ho gives %ho
  imod (Pipeline.unscopedSems0_read (X := unscopedSems0 c) (c := c) fupd_intro s') $$ [Hb HSI] with ⟨%hs, HSI⟩
  · isplitl [Hb] <;> iassumption
  imodintro
  isplitr
  · ipureintro
    exact ⟨Buf.eq_of_forall_mem_univ hx, Buf.eq_of_forall_mem_univ ho, hs⟩
  iexact HSI

set_option maxRecDepth 100000 in
/-- On the mesh of four devices, for any float values, from any memory with the semaphores at zero: every weakly fair
    execution of `main` ends, and every final state has each result at the computed contents, each argument as it was,
    and every semaphore at zero. -/
theorem run_main : θ_run defs (onTc (τ := τ) (main (F := F))) ⟨m, fun _ => 0, ρ⟩ (fun r =>
    (∀ c : Dev nD, r.2.mem ((c : Thread nD τ).loc main_arg0) = (argOf m) c ∧ r.2.mem ((c : Thread nD τ).loc main_v1) = OUT (argOf m) c)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G (argOf m)) (G' := G' (argOf m)) (u₀ := u₀)
    (hu₀ := by
      unfold u₀
      iintro Hu
      ihave H := (ownU_split _ _) $$ Hu
      icases H with ⟨HP, HX⟩
      imod (fund (argOf m)) $$ HX with HG
      imodintro
      isplitl [HP] <;> iassumption)
    (hglob := deal (argOf m))
    (hA := fun _ w => w.elim0) (hpf := fun _ k => k.elim0)
    (X := start m) (Y := done m) (Z := fun _ => iprop(emp))
    (hX := start_intro m ρ) (hin := phi0_intro m) (hout := phi1_exit m)
    (QY := Final m) (hY := done_read m)
    (hQ := fun _ h hs => ⟨fun c => ⟨(h c).2.2.1, (h c).2.2.2.1⟩, sem_eq_zero hs fun c => (h c).2.2.2.2⟩)

end Cert.AllToAll

end
-- ==== Proof.Value.lean ====
/-
# The result as a part of the reference's result

Each device holds a half of the rows of the whole argument. When the kernel ends it holds a half of the columns of the
whole result, and the whole result is the whole argument rounded.
-/
module

public import proofs.«01_k».proof.Proof.Run
public import Idealize.ShloMosaic.Lib.Layout

@[expose] public section

noncomputable section

namespace Cert.AllToAll

open Cert.KernelIdeal Cert.KernelIdeal.Gen
open Idealize.ShloMosaic Idealize.ShloMosaic.TcCoe

variable {F : FTy → Type} [FloatOps F]

/-- The whole argument's shape, which is also the whole result's. -/
abbrev Whole : Shape := ⟨2, ![16384, 2048]⟩

/-- The device the rows come from holds the half they lie in. -/
theorem srcOf_mod (c : Dev nD) {r : Nat} (hr : r < 16384) : (srcOf c r).val % 2 = r / 8192 := by
  unfold srcOf
  have h2 : r / 8192 < 2 := by omega
  have hc : c.val % 2 < 2 := Nat.mod_lt _ (by decide)
  split
  · next h => exact h.symm
  · next h =>
    split
    · rw [ynb_mod]; omega
    · rw [ynb_mod, xnb_mod]; omega

/-- From the halves of the rows of `v`, the half of the columns of `v` rounded. -/
theorem out_part (X : Dev nD → S8192x2048.Idx → F .f32) (v : Whole.Idx → F .f32)
    (hX : ∀ c : Dev nD, X c = Layout.blockN ⟨2, ![8192, 2048]⟩ Whole (Layout.meshBlock [2, 2] ![[1], []] c) v) (c : Dev nD) :
    OUT X c = Layout.blockN ⟨2, ![16384, 1024]⟩ Whole (Layout.meshBlock [2, 2] ![[], [1]] c) (fun j => round (v j)) := by
  funext i
  have h0 : (i 0).val < 16384 := (i 0).isLt
  have h1 : (i 1).val < 1024 := (i 1).isLt
  have hs := srcOf_mod c h0
  have hc : c.val % 2 < 2 := Nat.mod_lt _ (by decide)
  unfold OUT
  rw [hX]
  show round (v _) = round (v _)
  refine congrArg (fun j => round (v j)) ?_
  funext a
  apply Fin.ext
  rw [Layout.TilesN.idx_val, Layout.TilesN.idx_val]
  fin_cases a
  · show ((srcOf c (i 0).val).val / 1 % 2 * 1 + 0) * 8192 + (i 0).val % 8192 % 8192 = 0 * 16384 + (i 0).val
    omega
  · show 0 * 2048 + (1024 * (c.val % 2) + (i 1).val) % 2048 = (c.val / 1 % 2 * 1 + 0) * 1024 + (i 1).val
    omega

end Cert.AllToAll

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel runs, leaves its argument as it was, and leaves every semaphore at zero: its program is the same text
    as the idealized one, so the run over any float values serves both. -/
theorem quiescent_kernel : Cert.quiescent_Kernel := fun m ρ _ =>
  (θ_run Cert.KernelIdeal.defs _ _).mono (fun _ h => ⟨fun c => (h.1 c).1, h.2⟩) (Cert.AllToAll.run_main (F := Bits) m ρ)
theorem quiescent_kernelIdeal : Cert.quiescent_KernelIdeal := fun m ρ _ =>
  (θ_run Cert.KernelIdeal.defs _ _).mono (fun _ h => ⟨fun c => (h.1 c).1, h.2⟩) (Cert.AllToAll.run_main (F := Ideal) m ρ)

/-- The reference declares no semaphore. -/
theorem quiescent_reference : Cert.quiescent_Reference := fun m ρ _ =>
  (θ_run Cert.Reference.defs _ _).mono (fun r h => ⟨fun c => (h c).2, sem_eq_zero_of_no_sems rfl r.2⟩)
    (Cert.Reference.Value.run m ρ)
theorem quiescent_referenceIdeal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

/-- At exact values, each device's result is its part of the reference's result. -/
theorem algebraic : Cert.algebraic_KernelIdeal_ReferenceIdeal := fun m ρ m' ρ' _ hm =>
  ⟨_, (θ_run Cert.KernelIdeal.defs _ _).mono
      (fun _ h c => ⟨((h.1 c).2).trans (Cert.AllToAll.out_part (Cert.AllToAll.argOf m) _ hm c), (h.1 c).1⟩)
      (Cert.AllToAll.run_main (F := Ideal) m ρ),
    (θ_run Cert.ReferenceIdeal.defs _ _).mono (fun _ h => h 0) (Cert.ReferenceIdeal.Value.run m' ρ')⟩

/-- Bit for bit, each device's result is its part of the reference's result. -/
theorem bitexact : Cert.bitexact_Kernel_Reference := fun m ρ m' ρ' _ hm =>
  ⟨_, (θ_run Cert.KernelIdeal.defs _ _).mono
      (fun _ h c => ⟨((h.1 c).2).trans (Cert.AllToAll.out_part (Cert.AllToAll.argOf m) _ hm c), (h.1 c).1⟩)
      (Cert.AllToAll.run_main (F := Bits) m ρ),
    (θ_run Cert.Reference.defs _ _).mono (fun _ h => h 0) (Cert.Reference.Value.run m' ρ')⟩

theorem claim : Cert.Claim := ⟨Cert.Kernel.Gen.facts, Cert.KernelIdeal.Gen.facts, Cert.ReferenceIdeal.Gen.facts, Cert.Reference.Gen.facts,
  quiescent_kernel, quiescent_kernelIdeal, quiescent_referenceIdeal, quiescent_reference, trivial, algebraic, bitexact⟩

end Cert.Proof

end
